-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S10000x5x5 : Shape := ⟨3, ![10000, 5, 5]⟩
abbrev S10000x5x256 : Shape := ⟨3, ![10000, 5, 256]⟩
abbrev S256x64 : Shape := ⟨2, ![256, 64]⟩
abbrev S64 : Shape := ⟨1, ![64]⟩
abbrev S_ : Shape := ⟨0, ![]⟩
abbrev S64x256 : Shape := ⟨2, ![64, 256]⟩
abbrev S256 : Shape := ⟨1, ![256]⟩
abbrev S64x64 : Shape := ⟨2, ![64, 64]⟩

class Facts : Prop where
  bcast_S_S10000x5x5 : S_.BroadcastsInDim S10000x5x5 (![] : Fin 0 → Fin S10000x5x5.rank)
  reducesTo_S10000x5x5_S_d0_1_2 : S10000x5x5.ReducesTo [0, 1, 2] S_
  h_S_ : 0 < S_.numel
  bcast_S_S10000x5x256 : S_.BroadcastsInDim S10000x5x256 (![] : Fin 0 → Fin S10000x5x256.rank)
  reducesTo_S10000x5x256_S_d0_1_2 : S10000x5x256.ReducesTo [0, 1, 2] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  reducesTo_S_S_d : S_.ReducesTo [] S_
  bcast_S_S64x256 : S_.BroadcastsInDim S64x256 (![] : Fin 0 → Fin S64x256.rank)
  reducesTo_S64x256_S_d0_1 : S64x256.ReducesTo [0, 1] S_

variable [Facts]

def fn_part2 {F : FTy → Type} [FloatOps F] (main_v32 : IVec S_ 1) (main_v33 : FVec F S64x256 .f32) : IVec S_ 1 :=
  let main_cst_12 : FVec F S_ .f32 := constant S_ .f32 0x00000000#32
  let main_v34 : FVec F S64x256 .f32 := broadcastInDim S64x256 ![] bcast_S_S64x256 main_cst_12
  let main_v35 : IVec S64x256 1 := cmpf .oeq main_v33 main_v34
  let main_c_13 : IVec S_ 1 := constantI S_ 1 1#1
  let main_v36 : IVec S_ 1 := (fun x v => Host.reduce IntOp.andi x v reducesTo_S64x256_S_d0_1 h_S_) main_v35 main_c_13
  let main_v37 : IVec S_ 1 := andi main_v32 main_v36
  main_v37

def fn_part1 {F : FTy → Type} [FloatOps F] (main_arg6 : FVec F S256x64 .f32) (main_arg7 : FVec F S64 .f32) (main_arg8 : FVec F S_ .f32) (main_arg9 : FVec F S64x256 .f32) (main_v13 : IVec S_ 1) (main_v16 : IVec S10000x5x256 1) : IVec S_ 1 :=
  let main_c_5 : IVec S_ 1 := constantI S_ 1 1#1
  let main_v17 : IVec S_ 1 := (fun x v => Host.reduce IntOp.andi x v reducesTo_S10000x5x256_S_d0_1_2 h_S_) main_v16 main_c_5
  let main_v18 : IVec S_ 1 := andi main_v13 main_v17
  let main_v19 : FVec F S256x64 .f32 := subf main_arg6 main_arg6
  let main_cst_6 : FVec F S_ .f32 := constant S_ .f32 0x00000000#32
  let main_v20 : FVec F S256x64 .f32 := broadcastInDim S256x64 ![] bcast_S_S256x64 main_cst_6
  let main_v21 : IVec S256x64 1 := cmpf .oeq main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := subf main_arg7 main_arg7
  let main_cst_8 : FVec F S_ .f32 := constant S_ .f32 0x00000000#32
  let main_v25 : FVec F S64 .f32 := broadcastInDim S64 ![] bcast_S_S64 main_cst_8
  let main_v26 : IVec S64 1 := cmpf .oeq main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S_ .f32 := subf main_arg8 main_arg8
  let main_cst_10 : FVec F S_ .f32 := constant S_ .f32 0x00000000#32
  let main_v30 : IVec S_ 1 := cmpf .oeq main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S64x256 .f32 := subf main_arg9 main_arg9
  fn_part2 (F := F) main_v32 main_v33

def fn {F : FTy → Type} [FloatOps F] (main_arg0 : FVec F S10000x5x5 .f32) (main_arg1 : FVec F S10000x5x256 .f32) (main_arg2 : FVec F S10000x5x256 .f32) (main_arg3 : FVec F S10000x5x5 .f32) (main_arg4 : FVec F S10000x5x256 .f32) (main_arg5 : FVec F S10000x5x256 .f32) (main_arg6 : FVec F S256x64 .f32) (main_arg7 : FVec F S64 .f32) (main_arg8 : FVec F S_ .f32) (main_arg9 : FVec F S64x256 .f32) (main_arg10 : FVec F S256 .f32) (main_arg11 : FVec F S_ .f32) (main_arg12 : FVec F S64x64 .f32) (main_arg13 : FVec F S_ .f32) (main_arg14 : FVec F S64x64 .f32) (main_arg15 : FVec F S_ .f32) : IVec S_ 1 :=
  let main_v0 : FVec F S10000x5x5 .f32 := subf main_arg0 main_arg0
  let main_cst : FVec F S_ .f32 := constant S_ .f32 0x00000000#32
  let main_v1 : FVec F S10000x5x5 .f32 := broadcastInDim S10000x5x5 ![] bcast_S_S10000x5x5 main_cst
  let main_v2 : IVec S10000x5x5 1 := cmpf .oeq main_v0 main_v1
  let main_c : IVec S_ 1 := constantI S_ 1 1#1
  let main_v3 : IVec S_ 1 := (fun x v => Host.reduce IntOp.andi x v reducesTo_S10000x5x5_S_d0_1_2 h_S_) main_v2 main_c
  let main_v4 : FVec F S10000x5x256 .f32 := subf main_arg1 main_arg1
  let main_cst_0 : FVec F S_ .f32 := constant S_ .f32 0x00000000#32
  let main_v5 : FVec F S10000x5x256 .f32 := broadcastInDim S10000x5x256 ![] bcast_S_S10000x5x256 main_cst_0
  let main_v6 : IVec S10000x5x256 1 := cmpf .oeq main_v4 main_v5
  let main_c_1 : IVec S_ 1 := constantI S_ 1 1#1
  let main_v7 : IVec S_ 1 := (fun x v => Host.reduce IntOp.andi x v reducesTo_S10000x5x256_S_d0_1_2 h_S_) main_v6 main_c_1
  let main_v8 : IVec S_ 1 := andi main_v3 main_v7
  let main_v9 : FVec F S10000x5x5 .f32 := subf main_arg3 main_arg3
  let main_cst_2 : FVec F S_ .f32 := constant S_ .f32 0x00000000#32
  let main_v10 : FVec F S10000x5x5 .f32 := broadcastInDim S10000x5x5 ![] bcast_S_S10000x5x5 main_cst_2
  let main_v11 : IVec S10000x5x5 1 := cmpf .oeq main_v9 main_v10
  let main_c_3 : IVec S_ 1 := constantI S_ 1 1#1
  let main_v12 : IVec S_ 1 := (fun x v => Host.reduce IntOp.andi x v reducesTo_S10000x5x5_S_d0_1_2 h_S_) main_v11 main_c_3
  let main_v13 : IVec S_ 1 := andi main_v8 main_v12
  let main_v14 : FVec F S10000x5x256 .f32 := subf main_arg4 main_arg4
  let main_cst_4 : FVec F S_ .f32 := constant S_ .f32 0x00000000#32
  let main_v15 : FVec F S10000x5x256 .f32 := broadcastInDim S10000x5x256 ![] bcast_S_S10000x5x256 main_cst_4
  let main_v16 : IVec S10000x5x256 1 := cmpf .oeq main_v14 main_v15
  fn_part1 (F := F) main_arg6 main_arg7 main_arg8 main_arg9 main_v13 main_v16
-- ==== Kernel.lean ====
abbrev S10000x5x5 : Shape := ⟨3, ![10000, 5, 5]⟩
abbrev S10000x5x256 : Shape := ⟨3, ![10000, 5, 256]⟩
abbrev S256x64 : Shape := ⟨2, ![256, 64]⟩
abbrev S64 : Shape := ⟨1, ![64]⟩
abbrev S_ : Shape := ⟨0, ![]⟩
abbrev S64x256 : Shape := ⟨2, ![64, 256]⟩
abbrev S256 : Shape := ⟨1, ![256]⟩
abbrev S64x64 : Shape := ⟨2, ![64, 64]⟩
abbrev S10000x25 : Shape := ⟨2, ![10000, 25]⟩
abbrev S10000x1280 : Shape := ⟨2, ![10000, 1280]⟩
abbrev S10000x1x256 : Shape := ⟨3, ![10000, 1, 256]⟩
abbrev S10000x256 : Shape := ⟨2, ![10000, 256]⟩
abbrev S1x5x5 : Shape := ⟨3, ![1, 5, 5]⟩
abbrev S5x5 : Shape := ⟨2, ![5, 5]⟩
abbrev S1x5x256 : Shape := ⟨3, ![1, 5, 256]⟩
abbrev S5x256 : Shape := ⟨2, ![5, 256]⟩
abbrev S25 : Shape := ⟨1, ![25]⟩
abbrev S25x1 : Shape := ⟨2, ![25, 1]⟩
abbrev S3200 : Shape := ⟨1, ![3200]⟩
abbrev S1x3200 : Shape := ⟨2, ![1, 3200]⟩
abbrev S25x3200 : Shape := ⟨2, ![25, 3200]⟩
abbrev S1x64 : Shape := ⟨2, ![1, 64]⟩
abbrev S1x256 : Shape := ⟨2, ![1, 256]⟩
abbrev S1x1 : Shape := ⟨2, ![1, 1]⟩
abbrev S10000x1 : Shape := ⟨2, ![10000, 1]⟩
abbrev S400x25 : Shape := ⟨2, ![400, 25]⟩
abbrev S400x1280 : Shape := ⟨2, ![400, 1280]⟩
abbrev S400x256 : Shape := ⟨2, ![400, 256]⟩
abbrev S400x1 : Shape := ⟨2, ![400, 1]⟩
abbrev S400x64 : Shape := ⟨2, ![400, 64]⟩
abbrev S400x3200 : Shape := ⟨2, ![400, 3200]⟩
abbrev S400 : Shape := ⟨1, ![400]⟩
abbrev S5x64 : Shape := ⟨2, ![5, 64]⟩
abbrev S4x64 : Shape := ⟨2, ![4, 64]⟩
abbrev S399x64 : Shape := ⟨2, ![399, 64]⟩
abbrev S10000 : Shape := ⟨1, ![10000]⟩
abbrev S60000 : Shape := ⟨1, ![60000]⟩

abbrev nBuf : Space → Nat
  | .hbm => 76
  | .vmem => 41
  | .smem => 0
  | _ => 0

abbrev bufTy : (tb : Table) → Fin (tcTables nBuf tb) → BufTy
  | .hbm, ⟨0, _⟩ => ⟨S10000x5x5, .f32⟩
  | .hbm, ⟨1, _⟩ => ⟨S10000x5x256, .f32⟩
  | .hbm, ⟨2, _⟩ => ⟨S10000x5x256, .f32⟩
  | .hbm, ⟨3, _⟩ => ⟨S10000x5x5, .f32⟩
  | .hbm, ⟨4, _⟩ => ⟨S10000x5x256, .f32⟩
  | .hbm, ⟨5, _⟩ => ⟨S10000x5x256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S64x256, .f32⟩
  | .hbm, ⟨10, _⟩ => ⟨S256, .f32⟩
  | .hbm, ⟨11, _⟩ => ⟨S_, .f32⟩
  | .hbm, ⟨12, _⟩ => ⟨S64x64, .f32⟩
  | .hbm, ⟨13, _⟩ => ⟨S_, .f32⟩
  | .hbm, ⟨14, _⟩ => ⟨S64x64, .f32⟩
  | .hbm, ⟨15, _⟩ => ⟨S_, .f32⟩
  | .hbm, ⟨16, _⟩ => ⟨S10000x25, .f32⟩
  | .hbm, ⟨17, _⟩ => ⟨S10000x25, .f32⟩
  | .hbm, ⟨18, _⟩ => ⟨S10000x1280, .f32⟩
  | .hbm, ⟨19, _⟩ => ⟨S10000x1280, .f32⟩
  | .hbm, ⟨20, _⟩ => ⟨S10000x1x256, .f32⟩
  | .hbm, ⟨21, _⟩ => ⟨S10000x256, .f32⟩
  | .hbm, ⟨22, _⟩ => ⟨S10000x1x256, .f32⟩
  | .hbm, ⟨23, _⟩ => ⟨S10000x256, .f32⟩
  | .hbm, ⟨24, _⟩ => ⟨S1x5x5, .f32⟩
  | .hbm, ⟨25, _⟩ => ⟨S5x5, .f32⟩
  | .hbm, ⟨26, _⟩ => ⟨S1x5x256, .f32⟩
  | .hbm, ⟨27, _⟩ => ⟨S5x256, .f32⟩
  | .hbm, ⟨28, _⟩ => ⟨S1x5x5, .f32⟩
  | .hbm, ⟨29, _⟩ => ⟨S5x5, .f32⟩
  | .hbm, ⟨30, _⟩ => ⟨S1x5x256, .f32⟩
  | .hbm, ⟨31, _⟩ => ⟨S5x256, .f32⟩
  | .hbm, ⟨32, _⟩ => ⟨S25, .i32⟩
  | .hbm, ⟨33, _⟩ => ⟨S25x1, .i32⟩
  | .hbm, ⟨34, _⟩ => ⟨S_, .i32⟩
  | .hbm, ⟨35, _⟩ => ⟨S25x1, .i32⟩
  | .hbm, ⟨36, _⟩ => ⟨S25x1, .i32⟩
  | .hbm, ⟨37, _⟩ => ⟨S3200, .i32⟩
  | .hbm, ⟨38, _⟩ => ⟨S1x3200, .i32⟩
  | .hbm, ⟨39, _⟩ => ⟨S25x3200, .i32⟩
  | .hbm, ⟨40, _⟩ => ⟨S25x3200, .i32⟩
  | .hbm, ⟨41, _⟩ => ⟨S25x3200, .i1⟩
  | .hbm, ⟨42, _⟩ => ⟨S3200, .i32⟩
  | .hbm, ⟨43, _⟩ => ⟨S1x3200, .i32⟩
  | .hbm, ⟨44, _⟩ => ⟨S25, .i32⟩
  | .hbm, ⟨45, _⟩ => ⟨S25x1, .i32⟩
  | .hbm, ⟨46, _⟩ => ⟨S_, .i32⟩
  | .hbm, ⟨47, _⟩ => ⟨S25x1, .i32⟩
  | .hbm, ⟨48, _⟩ => ⟨S25x1, .i32⟩
  | .hbm, ⟨49, _⟩ => ⟨S_, .i32⟩
  | .hbm, ⟨50, _⟩ => ⟨S25x1, .i32⟩
  | .hbm, ⟨51, _⟩ => ⟨S25x1, .i32⟩
  | .hbm, ⟨52, _⟩ => ⟨S25x3200, .i32⟩
  | .hbm, ⟨53, _⟩ => ⟨S25x3200, .i32⟩
  | .hbm, ⟨54, _⟩ => ⟨S25x3200, .i1⟩
  | .hbm, ⟨55, _⟩ => ⟨S25x3200, .i1⟩
  | .hbm, ⟨56, _⟩ => ⟨S25x3200, .f32⟩
  | .hbm, ⟨57, _⟩ => ⟨S1x64, .f32⟩
  | .hbm, ⟨58, _⟩ => ⟨S1x256, .f32⟩
  | .hbm, ⟨59, _⟩ => ⟨S1x1, .f32⟩
  | .hbm, ⟨60, _⟩ => ⟨S1x1, .f32⟩
  | .hbm, ⟨61, _⟩ => ⟨S1x1, .f32⟩
  | .hbm, ⟨62, _⟩ => ⟨S1x1, .f32⟩
  | .hbm, ⟨63, _⟩ => ⟨S10000x1, .f32⟩
  | .hbm, ⟨64, _⟩ => ⟨S10000x1, .f32⟩
  | .hbm, ⟨65, _⟩ => ⟨S10000x1, .f32⟩
  | .hbm, ⟨66, _⟩ => ⟨S10000x1, .f32⟩
  | .hbm, ⟨67, _⟩ => ⟨S10000x1, .f32⟩
  | .hbm, ⟨68, _⟩ => ⟨S10000x1, .f32⟩
  | .hbm, ⟨69, _⟩ => ⟨S10000, .f32⟩
  | .hbm, ⟨70, _⟩ => ⟨S10000, .f32⟩
  | .hbm, ⟨71, _⟩ => ⟨S10000, .f32⟩
  | .hbm, ⟨72, _⟩ => ⟨S10000, .f32⟩
  | .hbm, ⟨73, _⟩ => ⟨S10000, .f32⟩
  | .hbm, ⟨74, _⟩ => ⟨S10000, .f32⟩
  | .hbm, ⟨75, _⟩ => ⟨S60000, .f32⟩
  | .local _ .vmem, ⟨0, _⟩ => ⟨S400x25, .f32⟩
  | .local _ .vmem, ⟨1, _⟩ => ⟨S400x25, .f32⟩
  | .local _ .vmem, ⟨2, _⟩ => ⟨S400x1280, .f32⟩
  | .local _ .vmem, ⟨3, _⟩ => ⟨S400x1280, .f32⟩
  | .local _ .vmem, ⟨4, _⟩ => ⟨S400x256, .f32⟩
  | .local _ .vmem, ⟨5, _⟩ => ⟨S400x256, .f32⟩
  | .local _ .vmem, ⟨6, _⟩ => ⟨S400x25, .f32⟩
  | .local _ .vmem, ⟨7, _⟩ => ⟨S400x25, .f32⟩
  | .local _ .vmem, ⟨8, _⟩ => ⟨S400x1280, .f32⟩
  | .local _ .vmem, ⟨9, _⟩ => ⟨S400x1280, .f32⟩
  | .local _ .vmem, ⟨10, _⟩ => ⟨S400x256, .f32⟩
  | .local _ .vmem, ⟨11, _⟩ => ⟨S400x256, .f32⟩
  | .local _ .vmem, ⟨12, _⟩ => ⟨S5x5, .f32⟩
  | .local _ .vmem, ⟨13, _⟩ => ⟨S5x256, .f32⟩
  | .local _ .vmem, ⟨14, _⟩ => ⟨S5x5, .f32⟩
  | .local _ .vmem, ⟨15, _⟩ => ⟨S5x256, .f32⟩
  | .local _ .vmem, ⟨16, _⟩ => ⟨S25x3200, .f32⟩
  | .local _ .vmem, ⟨17, _⟩ => ⟨S256x64, .f32⟩
  | .local _ .vmem, ⟨18, _⟩ => ⟨S1x64, .f32⟩
  | .local _ .vmem, ⟨19, _⟩ => ⟨S1x1, .f32⟩
  | .local _ .vmem, ⟨20, _⟩ => ⟨S64x256, .f32⟩
  | .local _ .vmem, ⟨21, _⟩ => ⟨S1x256, .f32⟩
  | .local _ .vmem, ⟨22, _⟩ => ⟨S1x1, .f32⟩
  | .local _ .vmem, ⟨23, _⟩ => ⟨S64x64, .f32⟩
  | .local _ .vmem, ⟨24, _⟩ => ⟨S1x1, .f32⟩
  | .local _ .vmem, ⟨25, _⟩ => ⟨S64x64, .f32⟩
  | .local _ .vmem, ⟨26, _⟩ => ⟨S1x1, .f32⟩
  | .local _ .vmem, ⟨27, _⟩ => ⟨S400x1, .f32⟩
  | .local _ .vmem, ⟨28, _⟩ => ⟨S400x1, .f32⟩
  | .local _ .vmem, ⟨29, _⟩ => ⟨S400x1, .f32⟩
  | .local _ .vmem, ⟨30, _⟩ => ⟨S400x1, .f32⟩
  | .local _ .vmem, ⟨31, _⟩ => ⟨S400x1, .f32⟩
  | .local _ .vmem, ⟨32, _⟩ => ⟨S400x1, .f32⟩
  | .local _ .vmem, ⟨33, _⟩ => ⟨S400x1, .f32⟩
  | .local _ .vmem, ⟨34, _⟩ => ⟨S400x1, .f32⟩
  | .local _ .vmem, ⟨35, _⟩ => ⟨S400x1, .f32⟩
  | .local _ .vmem, ⟨36, _⟩ => ⟨S400x1, .f32⟩
  | .local _ .vmem, ⟨37, _⟩ => ⟨S400x1, .f32⟩
  | .local _ .vmem, ⟨38, _⟩ => ⟨S400x1, .f32⟩
  | .local _ .vmem, ⟨39, _⟩ => ⟨S1x64, .f32⟩
  | .local _ .vmem, ⟨40, _⟩ => ⟨S1x64, .f32⟩
  | _, _ => ⟨S10000x5x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_0 : Ref sig .tc := ⟨.hbm, 46, rfl⟩
abbrev main_v29 : Ref sig .tc := ⟨.hbm, 47, rfl⟩
abbrev main_v30 : Ref sig .tc := ⟨.hbm, 48, rfl⟩
abbrev main_c_1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_v44_2 : Ref sig .tc := ⟨.hbm, 65, rfl⟩
abbrev main_v44_3 : Ref sig .tc := ⟨.hbm, 66, rfl⟩
abbrev main_v44_4 : Ref sig .tc := ⟨.hbm, 67, rfl⟩
abbrev main_v44_5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x25 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S25x3200 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S400x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S400x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S400x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S400x1 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S400x1 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S400x1 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== ReferenceIdeal.lean ====
abbrev S10000x5x5 : Shape := ⟨3, ![10000, 5, 5]⟩
abbrev S10000x5x256 : Shape := ⟨3, ![10000, 5, 256]⟩
abbrev S256x64 : Shape := ⟨2, ![256, 64]⟩
abbrev S64 : Shape := ⟨1, ![64]⟩
abbrev S_ : Shape := ⟨0, ![]⟩
abbrev S64x256 : Shape := ⟨2, ![64, 256]⟩
abbrev S256 : Shape := ⟨1, ![256]⟩
abbrev S64x64 : Shape := ⟨2, ![64, 64]⟩
abbrev S10000x5x64 : Shape := ⟨3, ![10000, 5, 64]⟩
abbrev S1x1x64 : Shape := ⟨3, ![1, 1, 64]⟩
abbrev S10000x4x64 : Shape := ⟨3, ![10000, 4, 64]⟩
abbrev S10000x64 : Shape := ⟨2, ![10000, 64]⟩
abbrev S10000x1x64 : Shape := ⟨3, ![10000, 1, 64]⟩
abbrev S64x10000 : Shape := ⟨2, ![64, 10000]⟩
abbrev S10000 : Shape := ⟨1, ![10000]⟩
abbrev S1x64 : Shape := ⟨2, ![1, 64]⟩
abbrev S9999x64 : Shape := ⟨2, ![9999, 64]⟩
abbrev S20000 : Shape := ⟨1, ![20000]⟩
abbrev S1x1x256 : Shape := ⟨3, ![1, 1, 256]⟩
abbrev S10000x1x256 : Shape := ⟨3, ![10000, 1, 256]⟩
abbrev S10000x256 : Shape := ⟨2, ![10000, 256]⟩
abbrev S60000 : Shape := ⟨1, ![60000]⟩

abbrev nBuf : Space → Nat
  | .hbm => 125
  | .vmem => 0
  | .smem => 0
  | _ => 0

abbrev bufTy : (tb : Table) → Fin (tcTables nBuf tb) → BufTy
  | .hbm, ⟨0, _⟩ => ⟨S10000x5x5, .f32⟩
  | .hbm, ⟨1, _⟩ => ⟨S10000x5x256, .f32⟩
  | .hbm, ⟨2, _⟩ => ⟨S10000x5x256, .f32⟩
  | .hbm, ⟨3, _⟩ => ⟨S10000x5x5, .f32⟩
  | .hbm, ⟨4, _⟩ => ⟨S10000x5x256, .f32⟩
  | .hbm, ⟨5, _⟩ => ⟨S10000x5x256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S64x256, .f32⟩
  | .hbm, ⟨10, _⟩ => ⟨S256, .f32⟩
  | .hbm, ⟨11, _⟩ => ⟨S_, .f32⟩
  | .hbm, ⟨12, _⟩ => ⟨S64x64, .f32⟩
  | .hbm, ⟨13, _⟩ => ⟨S_, .f32⟩
  | .hbm, ⟨14, _⟩ => ⟨S64x64, .f32⟩
  | .hbm, ⟨15, _⟩ => ⟨S_, .f32⟩
  | .hbm, ⟨16, _⟩ => ⟨S10000x5x64, .f32⟩
  | .hbm, ⟨17, _⟩ => ⟨S10000x5x64, .f32⟩
  | .hbm, ⟨18, _⟩ => ⟨S1x1x64, .f32⟩
  | .hbm, ⟨19, _⟩ => ⟨S10000x5x64, .f32⟩
  | .hbm, ⟨20, _⟩ => ⟨S10000x5x64, .f32⟩
  | .hbm, ⟨21, _⟩ => ⟨S_, .f32⟩
  | .hbm, ⟨22, _⟩ => ⟨S10000x5x64, .f32⟩
  | .hbm, ⟨23, _⟩ => ⟨S10000x5x64, .i1⟩
  | .hbm, ⟨24, _⟩ => ⟨S10000x5x64, .f32⟩
  | .hbm, ⟨25, _⟩ => ⟨S10000x5x64, .f32⟩
  | .hbm, ⟨26, _⟩ => ⟨S10000x5x64, .f32⟩
  | .hbm, ⟨27, _⟩ => ⟨S10000x5x64, .f32⟩
  | .hbm, ⟨28, _⟩ => ⟨S10000x5x64, .f32⟩
  | .hbm, ⟨29, _⟩ => ⟨S1x1x64, .f32⟩
  | .hbm, ⟨30, _⟩ => ⟨S10000x5x64, .f32⟩
  | .hbm, ⟨31, _⟩ => ⟨S10000x5x64, .f32⟩
  | .hbm, ⟨32, _⟩ => ⟨S_, .f32⟩
  | .hbm, ⟨33, _⟩ => ⟨S10000x5x64, .f32⟩
  | .hbm, ⟨34, _⟩ => ⟨S10000x5x64, .i1⟩
  | .hbm, ⟨35, _⟩ => ⟨S10000x5x64, .f32⟩
  | .hbm, ⟨36, _⟩ => ⟨S10000x5x64, .f32⟩
  | .hbm, ⟨37, _⟩ => ⟨S10000x5x64, .f32⟩
  | .hbm, ⟨38, _⟩ => ⟨S10000x4x64, .f32⟩
  | .hbm, ⟨39, _⟩ => ⟨S_, .f32⟩
  | .hbm, ⟨40, _⟩ => ⟨S10000x64, .f32⟩
  | .hbm, ⟨41, _⟩ => ⟨S_, .f32⟩
  | .hbm, ⟨42, _⟩ => ⟨S10000x64, .f32⟩
  | .hbm, ⟨43, _⟩ => ⟨S10000x64, .f32⟩
  | .hbm, ⟨44, _⟩ => ⟨S10000x4x64, .f32⟩
  | .hbm, ⟨45, _⟩ => ⟨S_, .f32⟩
  | .hbm, ⟨46, _⟩ => ⟨S10000x64, .f32⟩
  | .hbm, ⟨47, _⟩ => ⟨S_, .f32⟩
  | .hbm, ⟨48, _⟩ => ⟨S10000x64, .f32⟩
  | .hbm, ⟨49, _⟩ => ⟨S10000x64, .f32⟩
  | .hbm, ⟨50, _⟩ => ⟨S10000x1x64, .f32⟩
  | .hbm, ⟨51, _⟩ => ⟨S10000x64, .f32⟩
  | .hbm, ⟨52, _⟩ => ⟨S10000x1x64, .f32⟩
  | .hbm, ⟨53, _⟩ => ⟨S10000x64, .f32⟩
  | .hbm, ⟨54, _⟩ => ⟨S64x10000, .f32⟩
  | .hbm, ⟨55, _⟩ => ⟨S10000, .f32⟩
  | .hbm, ⟨56, _⟩ => ⟨S10000, .f32⟩
  | .hbm, ⟨57, _⟩ => ⟨S10000, .f32⟩
  | .hbm, ⟨58, _⟩ => ⟨S1x64, .f32⟩
  | .hbm, ⟨59, _⟩ => ⟨S9999x64, .f32⟩
  | .hbm, ⟨60, _⟩ => ⟨S10000x64, .f32⟩
  | .hbm, ⟨61, _⟩ => ⟨S64x10000, .f32⟩
  | .hbm, ⟨62, _⟩ => ⟨S10000, .f32⟩
  | .hbm, ⟨63, _⟩ => ⟨S10000, .f32⟩
  | .hbm, ⟨64, _⟩ => ⟨S10000, .f32⟩
  | .hbm, ⟨65, _⟩ => ⟨S20000, .f32⟩
  | .hbm, ⟨66, _⟩ => ⟨S64x10000, .f32⟩
  | .hbm, ⟨67, _⟩ => ⟨S10000, .f32⟩
  | .hbm, ⟨68, _⟩ => ⟨S10000, .f32⟩
  | .hbm, ⟨69, _⟩ => ⟨S10000, .f32⟩
  | .hbm, ⟨70, _⟩ => ⟨S1x64, .f32⟩
  | .hbm, ⟨71, _⟩ => ⟨S9999x64, .f32⟩
  | .hbm, ⟨72, _⟩ => ⟨S10000x64, .f32⟩
  | .hbm, ⟨73, _⟩ => ⟨S64x10000, .f32⟩
  | .hbm, ⟨74, _⟩ => ⟨S10000, .f32⟩
  | .hbm, ⟨75, _⟩ => ⟨S10000, .f32⟩
  | .hbm, ⟨76, _⟩ => ⟨S10000, .f32⟩
  | .hbm, ⟨77, _⟩ => ⟨S20000, .f32⟩
  | .hbm, ⟨78, _⟩ => ⟨S10000x5x256, .f32⟩
  | .hbm, ⟨79, _⟩ => ⟨S10000x5x256, .f32⟩
  | .hbm, ⟨80, _⟩ => ⟨S1x1x256, .f32⟩
  | .hbm, ⟨81, _⟩ => ⟨S10000x5x256, .f32⟩
  | .hbm, ⟨82, _⟩ => ⟨S10000x5x256, .f32⟩
  | .hbm, ⟨83, _⟩ => ⟨S_, .f32⟩
  | .hbm, ⟨84, _⟩ => ⟨S10000x5x256, .f32⟩
  | .hbm, ⟨85, _⟩ => ⟨S10000x5x256, .i1⟩
  | .hbm, ⟨86, _⟩ => ⟨S10000x5x256, .f32⟩
  | .hbm, ⟨87, _⟩ => ⟨S10000x5x256, .f32⟩
  | .hbm, ⟨88, _⟩ => ⟨S10000x5x256, .f32⟩
  | .hbm, ⟨89, _⟩ => ⟨S10000x5x256, .f32⟩
  | .hbm, ⟨90, _⟩ => ⟨S10000x5x256, .f32⟩
  | .hbm, ⟨91, _⟩ => ⟨S1x1x256, .f32⟩
  | .hbm, ⟨92, _⟩ => ⟨S10000x5x256, .f32⟩
  | .hbm, ⟨93, _⟩ => ⟨S10000x5x256, .f32⟩
  | .hbm, ⟨94, _⟩ => ⟨S_, .f32⟩
  | .hbm, ⟨95, _⟩ => ⟨S10000x5x256, .f32⟩
  | .hbm, ⟨96, _⟩ => ⟨S10000x5x256, .i1⟩
  | .hbm, ⟨97, _⟩ => ⟨S10000x5x256, .f32⟩
  | .hbm, ⟨98, _⟩ => ⟨S10000x5x256, .f32⟩
  | .hbm, ⟨99, _⟩ => ⟨S10000x5x256, .f32⟩
  | .hbm, ⟨100, _⟩ => ⟨S10000x1x256, .f32⟩
  | .hbm, ⟨101, _⟩ => ⟨S10000x256, .f32⟩
  | .hbm, ⟨102, _⟩ => ⟨S10000x1x256, .f32⟩
  | .hbm, ⟨103, _⟩ => ⟨S10000x256, .f32⟩
  | .hbm, ⟨104, _⟩ => ⟨S10000x256, .f32⟩
  | .hbm, ⟨105, _⟩ => ⟨S10000x256, .f32⟩
  | .hbm, ⟨106, _⟩ => ⟨S_, .f32⟩
  | .hbm, ⟨107, _⟩ => ⟨S10000, .f32⟩
  | .hbm, ⟨108, _⟩ => ⟨S_, .f32⟩
  | .hbm, ⟨109, _⟩ => ⟨S10000, .f32⟩
  | .hbm, ⟨110, _⟩ => ⟨S10000, .f32⟩
  | .hbm, ⟨111, _⟩ => ⟨S10000, .f32⟩
  | .hbm, ⟨112, _⟩ => ⟨S10000x1x256, .f32⟩
  | .hbm, ⟨113, _⟩ => ⟨S10000x256, .f32⟩
  | .hbm, ⟨114, _⟩ => ⟨S10000x1x256, .f32⟩
  | .hbm, ⟨115, _⟩ => ⟨S10000x256, .f32⟩
  | .hbm, ⟨116, _⟩ => ⟨S10000x256, .f32⟩
  | .hbm, ⟨117, _⟩ => ⟨S10000x256, .f32⟩
  | .hbm, ⟨118, _⟩ => ⟨S_, .f32⟩
  | .hbm, ⟨119, _⟩ => ⟨S10000, .f32⟩
  | .hbm, ⟨120, _⟩ => ⟨S_, .f32⟩
  | .hbm, ⟨121, _⟩ => ⟨S10000, .f32⟩
  | .hbm, ⟨122, _⟩ => ⟨S10000, .f32⟩
  | .hbm, ⟨123, _⟩ => ⟨S10000, .f32⟩
  | .hbm, ⟨124, _⟩ => ⟨S60000, .f32⟩
  | _, _ => ⟨S10000x5x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_6 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_7 : Ref sig .tc := ⟨.hbm, 106, rfl⟩
abbrev main_v82 : Ref sig .tc := ⟨.hbm, 107, rfl⟩
abbrev main_cst_8 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_9 : Ref sig .tc := ⟨.hbm, 118, rfl⟩
abbrev main_v92 : Ref sig .tc := ⟨.hbm, 119, rfl⟩
abbrev main_cst_10 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩

abbrev nD : Nat := 1
abbrev τ : Topo := Topo.v7x

variable {F : FTy → Type} [FloatOps F]
-- ==== Proof.BodyRun.lean ====
/- The whole-body run of the kernel at one grid point: one straight line of loads, arithmetic and stores. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body run once, at any contents of its operands. The inputs' buffers hold `x0` … `x20` and the two scratch rows
    `xs0`, `xs1`; the outputs' buffers hold anything. The run ends with the inputs as they were and every output and
    scratch buffer with the pieces (`L21` … `L26`, `LS0`, `LS1`) the run finds written into it. -/
noncomputable def bodyRun (c : Dev nD) (i : grid0.Coords) (arg1 : Memref sig .tc .vmem S400x25 .f32) (harg1 : arg1.IsWhole) (arg2 : Memref sig .tc .vmem S400x1280 .f32) (harg2 : arg2.IsWhole) (arg3 : Memref sig .tc .vmem S400x256 .f32) (harg3 : arg3.IsWhole) (arg4 : Memref sig .tc .vmem S400x25 .f32) (harg4 : arg4.IsWhole) (arg5 : Memref sig .tc .vmem S400x1280 .f32) (harg5 : arg5.IsWhole) (arg6 : Memref sig .tc .vmem S400x256 .f32) (harg6 : arg6.IsWhole) (arg7 : Memref sig .tc .vmem S5x5 .f32) (harg7 : arg7.IsWhole) (arg8 : Memref sig .tc .vmem S5x256 .f32) (harg8 : arg8.IsWhole) (arg9 : Memref sig .tc .vmem S5x5 .f32) (harg9 : arg9.IsWhole) (arg10 : Memref sig .tc .vmem S5x256 .f32) (harg10 : arg10.IsWhole) (arg11 : Memref sig .tc .vmem S25x3200 .f32) (harg11 : arg11.IsWhole) (arg12 : Memref sig .tc .vmem S256x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x1 .f32) (harg19 : arg19.IsWhole) (arg20 : Memref sig .tc .vmem S64x64 .f32) (harg20 : arg20.IsWhole) (arg21 : Memref sig .tc .vmem S1x1 .f32) (harg21 : arg21.IsWhole) (arg22 : Memref sig .tc .vmem S400x1 .f32) (harg22 : arg22.IsWhole) (arg23 : Memref sig .tc .vmem S400x1 .f32) (harg23 : arg23.IsWhole) (arg24 : Memref sig .tc .vmem S400x1 .f32) (harg24 : arg24.IsWhole) (arg25 : Memref sig .tc .vmem S400x1 .f32) (harg25 : arg25.IsWhole) (arg26 : Memref sig .tc .vmem S400x1 .f32) (harg26 : arg26.IsWhole) (arg27 : Memref sig .tc .vmem S400x1 .f32) (harg27 : arg27.IsWhole) (arg28 : Memref sig .tc .vmem S1x64 .f32) (harg28 : arg28.IsWhole) (arg29 : Memref sig .tc .vmem S1x64 .f32) (harg29 : arg29.IsWhole)
    (x0 : Vec F S400x25 .f32) (x1 : Vec F S400x1280 .f32) (x2 : Vec F S400x256 .f32) (x3 : Vec F S400x25 .f32) (x4 : Vec F S400x1280 .f32) (x5 : Vec F S400x256 .f32) (x6 : Vec F S5x5 .f32) (x7 : Vec F S5x256 .f32) (x8 : Vec F S5x5 .f32) (x9 : Vec F S5x256 .f32) (x10 : Vec F S25x3200 .f32) (x11 : Vec F S256x64 .f32) (x12 : Vec F S1x64 .f32) (x13 : Vec F S1x1 .f32) (x14 : Vec F S64x256 .f32) (x15 : Vec F S1x256 .f32) (x16 : Vec F S1x1 .f32) (x17 : Vec F S64x64 .f32) (x18 : Vec F S1x1 .f32) (x19 : Vec F S64x64 .f32) (x20 : Vec F S1x1 .f32) (xs0 : Vec F S1x64 .f32) (xs1 : Vec F S1x64 .f32) :
    Σ' (L21 : List (View.Piece (Elt F) S400x1 .f32)), Σ' (L22 : List (View.Piece (Elt F) S400x1 .f32)), Σ' (L23 : List (View.Piece (Elt F) S400x1 .f32)), Σ' (L24 : List (View.Piece (Elt F) S400x1 .f32)), Σ' (L25 : List (View.Piece (Elt F) S400x1 .f32)), Σ' (L26 : List (View.Piece (Elt F) S400x1 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare xs0 ∗ owns (c : Thread nD τ) arg29 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f LS0) ∗ (∃ f, arg29.view.loc (c : Thread nD τ) ↦[arg29.view.set]{fullShare} arg29.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, fun E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg28.eq_unread hfs0; obtain rfl := harg29.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [HS0]; · iexists _; iexact HS0
    iexists _; iexact HS1

end Cert.KernelIdeal.Hand

end
-- ==== Proof.Outputs.lean ====
/- What one grid point computes: the blocks it reads, and each value it stores as an expression over those blocks. -/
module

public import proofs.«01_k».proof.Proof.BodyRun
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The blocks of the twenty-one inputs at one grid point. -/
structure Blocks (F : FTy → Type) where
  adj1 : Vec F S400x25 .f32
  feat1 : Vec F S400x1280 .f32
  raw2 : Vec F S400x256 .f32
  adj2 : Vec F S400x25 .f32
  feat2 : Vec F S400x1280 .f32
  raw1 : Vec F S400x256 .f32
  adjT1 : Vec F S5x5 .f32
  featT1 : Vec F S5x256 .f32
  adjT2 : Vec F S5x5 .f32
  featT2 : Vec F S5x256 .f32
  pick : Vec F S25x3200 .f32
  wEnc : Vec F S256x64 .f32
  bEnc : Vec F S1x64 .f32
  aEnc : Vec F S1x1 .f32
  wDec : Vec F S64x256 .f32
  bDec : Vec F S1x256 .f32
  aDec : Vec F S1x1 .f32
  wb1 : Vec F S64x64 .f32
  bb1 : Vec F S1x1 .f32
  wb2 : Vec F S64x64 .f32
  bb2 : Vec F S1x1 .f32

/-- The bias row of the encoder. -/
def encBias (b : Blocks F) : FVec F S1x64 .f32 := k0_pay2 b.bEnc

/-- The slope of the encoder. -/
def encSlope (b : Blocks F) : F .f32 := k0_pay3 b.aEnc

/-- Row 0 of the first view, through the encoder weight. -/
def fts1_0 (b : Blocks F) : FVec F S400x64 .f32 := k0_pay7 b.wEnc (View.ld b.feat1 (Rect.unit ![0, 0] S400x256.size inb_S400x1280_S400x256_0_0))

/-- Row 1 of the first view, through the encoder weight. -/
def fts1_1 (b : Blocks F) : FVec F S400x64 .f32 := k0_pay8 b.wEnc (View.ld b.feat1 (Rect.unit ![0, 256] S400x256.size inb_S400x1280_S400x256_0_256))

/-- Row 2 of the first view, through the encoder weight. -/
def fts1_2 (b : Blocks F) : FVec F S400x64 .f32 := k0_pay9 b.wEnc (View.ld b.feat1 (Rect.unit ![0, 512] S400x256.size inb_S400x1280_S400x256_0_512))

/-- Row 3 of the first view, through the encoder weight. -/
def fts1_3 (b : Blocks F) : FVec F S400x64 .f32 := k0_pay10 b.wEnc (View.ld b.feat1 (Rect.unit ![0, 768] S400x256.size inb_S400x1280_S400x256_0_768))

/-- Row 4 of the first view, through the encoder weight. -/
def fts1_4 (b : Blocks F) : FVec F S400x64 .f32 := k0_pay11 b.wEnc (View.ld b.feat1 (Rect.unit ![0, 1024] S400x256.size inb_S400x1280_S400x256_0_1024))

/-- The adjacency entries of the first view, each spread over a tile of lanes. -/
def coef1 (b : Blocks F) : FVec F S400x3200 .f32 := k0_pay12 (k0_pay1 b.pick) b.adj1

/-- Row 0 of the hidden layer of the first view. -/
def h1_0 (b : Blocks F) : FVec F S400x64 .f32 := k0_pay13 (k0_pay1 b.pick) b.wEnc (encBias b) (encSlope b) (fts1_0 b) (fts1_1 b) (fts1_2 b) (fts1_3 b) (View.ld b.feat1 (Rect.unit ![0, 1024] S400x256.size inb_S400x1280_S400x256_0_1024)) b.adj1

/-- Row 1 of the hidden layer of the first view. -/
def h1_1 (b : Blocks F) : FVec F S400x64 .f32 := k0_pay14 (k0_pay1 b.pick) b.wEnc (encBias b) (encSlope b) (fts1_0 b) (fts1_1 b) (fts1_2 b) (fts1_3 b) (View.ld b.feat1 (Rect.unit ![0, 1024] S400x256.size inb_S400x1280_S400x256_0_1024)) b.adj1

/-- Row 2 of the hidden layer of the first view. -/
def h1_2 (b : Blocks F) : FVec F S400x64 .f32 := k0_pay17 (encBias b) (encSlope b) (fts1_2 b) (fts1_3 b) (fts1_4 b) (coef1 b) (k0_pay15 (k0_pay1 b.pick) (fts1_0 b) (fts1_1 b) b.adj1) (k0_pay16 (k0_pay1 b.pick) b.adj1)

/-- Row 3 of the hidden layer of the first view. -/
def h1_3 (b : Blocks F) : FVec F S400x64 .f32 := k0_pay18 (encBias b) (encSlope b) (fts1_0 b) (fts1_1 b) (fts1_2 b) (fts1_3 b) (fts1_4 b) (coef1 b)

/-- Row 4 (the target row) of the hidden layer of the first view. -/
def h1_4 (b : Blocks F) : FVec F S400x64 .f32 := k0_pay19 (encBias b) (encSlope b) (fts1_0 b) (fts1_1 b) (fts1_2 b) (fts1_3 b) (fts1_4 b) (coef1 b)

/-- The positive logits of the first view. -/
def pos1 (b : Blocks F) : FVec F S400x1 .f32 := k0_pay22 b.wb1 (k0_pay6 b.bb1) (h1_0 b) (h1_1 b) (h1_2 b) (h1_3 b) (h1_4 b)

/-- The negative logits of the first view at grid point `a`, the carried row being `s`. -/
def neg1 (b : Blocks F) (a : BitVec 32) (s : Vec F S1x64 .f32) : FVec F S400x1 .f32 := k0_pay23 a b.wEnc (encBias b) (encSlope b) b.wb1 (k0_pay6 b.bb1) (h1_0 b) (h1_1 b) (h1_2 b) (h1_3 b) (h1_4 b) b.featT1 b.adjT1 s

/-- The row the first view carries to the next grid point. -/
def carry1 (b : Blocks F) : FVec F S1x64 .f32 := k0_pay25 (k0_pay24 (h1_0 b) (h1_1 b) (h1_2 b) (h1_3 b))

/-- The distances of the first view. -/
def score1 (b : Blocks F) : FVec F S400x1 .f32 := k0_pay26 b.wDec (k0_pay4 b.bDec) (k0_pay5 b.aDec) (coef1 b) (h1_0 b) (h1_1 b) (h1_2 b) (h1_3 b) (h1_4 b) b.raw2

/-- Row 0 of the second view, through the encoder weight. -/
def fts2_0 (b : Blocks F) : FVec F S400x64 .f32 := k0_pay28 b.wEnc (View.ld b.feat2 (Rect.unit ![0, 0] S400x256.size inb_S400x1280_S400x256_0_0))

/-- Row 1 of the second view, through the encoder weight. -/
def fts2_1 (b : Blocks F) : FVec F S400x64 .f32 := k0_pay29 b.wEnc (View.ld b.feat2 (Rect.unit ![0, 256] S400x256.size inb_S400x1280_S400x256_0_256))

/-- Row 2 of the second view, through the encoder weight. -/
def fts2_2 (b : Blocks F) : FVec F S400x64 .f32 := k0_pay30 b.wEnc (View.ld b.feat2 (Rect.unit ![0, 512] S400x256.size inb_S400x1280_S400x256_0_512))

/-- Row 3 of the second view, through the encoder weight. -/
def fts2_3 (b : Blocks F) : FVec F S400x64 .f32 := k0_pay31 b.wEnc (View.ld b.feat2 (Rect.unit ![0, 768] S400x256.size inb_S400x1280_S400x256_0_768))

/-- Row 4 of the second view, through the encoder weight. -/
def fts2_4 (b : Blocks F) : FVec F S400x64 .f32 := k0_pay32 b.wEnc (View.ld b.feat2 (Rect.unit ![0, 1024] S400x256.size inb_S400x1280_S400x256_0_1024))

/-- The adjacency entries of the second view, each spread over a tile of lanes. -/
def coef2 (b : Blocks F) : FVec F S400x3200 .f32 := k0_pay33 (k0_pay1 b.pick) b.adj2

/-- Row 0 of the hidden layer of the second view. -/
def h2_0 (b : Blocks F) : FVec F S400x64 .f32 := k0_pay34 (k0_pay1 b.pick) b.wEnc (encBias b) (encSlope b) (fts2_0 b) (fts2_1 b) (View.ld b.feat2 (Rect.unit ![0, 512] S400x256.size inb_S400x1280_S400x256_0_512)) (View.ld b.feat2 (Rect.unit ![0, 768] S400x256.size inb_S400x1280_S400x256_0_768)) (View.ld b.feat2 (Rect.unit ![0, 1024] S400x256.size inb_S400x1280_S400x256_0_1024)) b.adj2

/-- Row 1 of the hidden layer of the second view. -/
def h2_1 (b : Blocks F) : FVec F S400x64 .f32 := k0_pay36 (encSlope b) (k0_pay35 (k0_pay1 b.pick) b.wEnc (encBias b) (fts2_0 b) (fts2_1 b) (View.ld b.feat2 (Rect.unit ![0, 512] S400x256.size inb_S400x1280_S400x256_0_512)) (View.ld b.feat2 (Rect.unit ![0, 768] S400x256.size inb_S400x1280_S400x256_0_768)) (View.ld b.feat2 (Rect.unit ![0, 1024] S400x256.size inb_S400x1280_S400x256_0_1024)) b.adj2)

/-- Row 2 of the hidden layer of the second view. -/
def h2_2 (b : Blocks F) : FVec F S400x64 .f32 := k0_pay37 (encBias b) (encSlope b) (fts2_0 b) (fts2_1 b) (fts2_2 b) (fts2_3 b) (fts2_4 b) (coef2 b)

/-- Row 3 of the hidden layer of the second view. -/
def h2_3 (b : Blocks F) : FVec F S400x64 .f32 := k0_pay38 (encBias b) (encSlope b) (fts2_0 b) (fts2_1 b) (fts2_2 b) (fts2_3 b) (fts2_4 b) (coef2 b)

/-- The first three terms of row 4 of the second view. -/
def part2 (b : Blocks F) : FVec F S400x64 .f32 := k0_pay39 (fts2_0 b) (fts2_1 b) (fts2_2 b) (coef2 b)

/-- The fourth term of row 4 of the second view. -/
def term2 (b : Blocks F) : FVec F S400x64 .f32 := k0_pay40 (fts2_3 b) (coef2 b)

/-- Row 4 (the target row) of the hidden layer of the second view. -/
def h2_4 (b : Blocks F) : FVec F S400x64 .f32 := k0_pay41 (encBias b) (encSlope b) (fts2_4 b) (coef2 b) (part2 b) (term2 b)

/-- The positive logits of the second view. -/
def pos2 (b : Blocks F) : FVec F S400x1 .f32 := k0_pay44 (encBias b) (encSlope b) b.wb2 (k0_pay27 b.bb2) (fts2_4 b) (coef2 b) (h2_0 b) (h2_1 b) (h2_2 b) (h2_3 b) (part2 b) (term2 b)

/-- The negative logits of the second view at grid point `a`, the carried row being `s`. -/
def neg2 (b : Blocks F) (a : BitVec 32) (s : Vec F S1x64 .f32) : FVec F S400x1 .f32 := k0_pay47 (k0_pay27 b.bb2) (k0_pay43 (encBias b) (encSlope b) b.wb2 (fts2_4 b) (coef2 b) (part2 b) (term2 b)) (k0_pay45 a b.wEnc (encBias b) (encSlope b) b.featT2 b.adjT2 s) (k0_pay46 (h2_0 b) (h2_1 b) (h2_2 b) (h2_3 b))

/-- The row the second view carries to the next grid point. -/
def carry2 (b : Blocks F) : FVec F S1x64 .f32 := k0_pay48 (k0_pay42 (h2_0 b) (h2_1 b) (h2_2 b) (h2_3 b))

/-- The distances of the second view. -/
def score2 (b : Blocks F) : FVec F S400x1 .f32 := k0_pay49 b.wDec (k0_pay4 b.bDec) (k0_pay5 b.aDec) (coef2 b) (h2_0 b) (h2_1 b) (h2_2 b) (h2_3 b) (h2_4 b) b.raw1

/-! The pieces the run finds are these values, each stored over its whole buffer. -/

theorem pieces_pos1 (c : Dev nD) (i : grid0.Coords) (arg1 : Memref sig .tc .vmem S400x25 .f32) (harg1 : arg1.IsWhole) (arg2 : Memref sig .tc .vmem S400x1280 .f32) (harg2 : arg2.IsWhole) (arg3 : Memref sig .tc .vmem S400x256 .f32) (harg3 : arg3.IsWhole) (arg4 : Memref sig .tc .vmem S400x25 .f32) (harg4 : arg4.IsWhole) (arg5 : Memref sig .tc .vmem S400x1280 .f32) (harg5 : arg5.IsWhole) (arg6 : Memref sig .tc .vmem S400x256 .f32) (harg6 : arg6.IsWhole) (arg7 : Memref sig .tc .vmem S5x5 .f32) (harg7 : arg7.IsWhole) (arg8 : Memref sig .tc .vmem S5x256 .f32) (harg8 : arg8.IsWhole) (arg9 : Memref sig .tc .vmem S5x5 .f32) (harg9 : arg9.IsWhole) (arg10 : Memref sig .tc .vmem S5x256 .f32) (harg10 : arg10.IsWhole) (arg11 : Memref sig .tc .vmem S25x3200 .f32) (harg11 : arg11.IsWhole) (arg12 : Memref sig .tc .vmem S256x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x1 .f32) (harg19 : arg19.IsWhole) (arg20 : Memref sig .tc .vmem S64x64 .f32) (harg20 : arg20.IsWhole) (arg21 : Memref sig .tc .vmem S1x1 .f32) (harg21 : arg21.IsWhole) (arg22 : Memref sig .tc .vmem S400x1 .f32) (harg22 : arg22.IsWhole) (arg23 : Memref sig .tc .vmem S400x1 .f32) (harg23 : arg23.IsWhole) (arg24 : Memref sig .tc .vmem S400x1 .f32) (harg24 : arg24.IsWhole) (arg25 : Memref sig .tc .vmem S400x1 .f32) (harg25 : arg25.IsWhole) (arg26 : Memref sig .tc .vmem S400x1 .f32) (harg26 : arg26.IsWhole) (arg27 : Memref sig .tc .vmem S400x1 .f32) (harg27 : arg27.IsWhole) (arg28 : Memref sig .tc .vmem S1x64 .f32) (harg28 : arg28.IsWhole) (arg29 : Memref sig .tc .vmem S1x64 .f32) (harg29 : arg29.IsWhole) (b : Blocks F) (s1 s2 : Vec F S1x64 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 b.adj1 b.feat1 b.raw2 b.adj2 b.feat2 b.raw1 b.adjT1 b.featT1 b.adjT2 b.featT2 b.pick b.wEnc b.bEnc b.aEnc b.wDec b.bDec b.aDec b.wb1 b.bb1 b.wb2 b.bb2 s1 s2).1 = [⟨Rect.unit ![0, 0] S400x1.size inb_S400x1_S400x1_0_0, pos1 b⟩] := by
  frame_out
  rfl

theorem pieces_neg1 (c : Dev nD) (i : grid0.Coords) (arg1 : Memref sig .tc .vmem S400x25 .f32) (harg1 : arg1.IsWhole) (arg2 : Memref sig .tc .vmem S400x1280 .f32) (harg2 : arg2.IsWhole) (arg3 : Memref sig .tc .vmem S400x256 .f32) (harg3 : arg3.IsWhole) (arg4 : Memref sig .tc .vmem S400x25 .f32) (harg4 : arg4.IsWhole) (arg5 : Memref sig .tc .vmem S400x1280 .f32) (harg5 : arg5.IsWhole) (arg6 : Memref sig .tc .vmem S400x256 .f32) (harg6 : arg6.IsWhole) (arg7 : Memref sig .tc .vmem S5x5 .f32) (harg7 : arg7.IsWhole) (arg8 : Memref sig .tc .vmem S5x256 .f32) (harg8 : arg8.IsWhole) (arg9 : Memref sig .tc .vmem S5x5 .f32) (harg9 : arg9.IsWhole) (arg10 : Memref sig .tc .vmem S5x256 .f32) (harg10 : arg10.IsWhole) (arg11 : Memref sig .tc .vmem S25x3200 .f32) (harg11 : arg11.IsWhole) (arg12 : Memref sig .tc .vmem S256x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x1 .f32) (harg19 : arg19.IsWhole) (arg20 : Memref sig .tc .vmem S64x64 .f32) (harg20 : arg20.IsWhole) (arg21 : Memref sig .tc .vmem S1x1 .f32) (harg21 : arg21.IsWhole) (arg22 : Memref sig .tc .vmem S400x1 .f32) (harg22 : arg22.IsWhole) (arg23 : Memref sig .tc .vmem S400x1 .f32) (harg23 : arg23.IsWhole) (arg24 : Memref sig .tc .vmem S400x1 .f32) (harg24 : arg24.IsWhole) (arg25 : Memref sig .tc .vmem S400x1 .f32) (harg25 : arg25.IsWhole) (arg26 : Memref sig .tc .vmem S400x1 .f32) (harg26 : arg26.IsWhole) (arg27 : Memref sig .tc .vmem S400x1 .f32) (harg27 : arg27.IsWhole) (arg28 : Memref sig .tc .vmem S1x64 .f32) (harg28 : arg28.IsWhole) (arg29 : Memref sig .tc .vmem S1x64 .f32) (harg29 : arg29.IsWhole) (b : Blocks F) (s1 s2 : Vec F S1x64 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 b.adj1 b.feat1 b.raw2 b.adj2 b.feat2 b.raw1 b.adjT1 b.featT1 b.adjT2 b.featT2 b.pick b.wEnc b.bEnc b.aEnc b.wDec b.bDec b.aDec b.wb1 b.bb1 b.wb2 b.bb2 s1 s2).2.1 = [⟨Rect.unit ![0, 0] S400x1.size inb_S400x1_S400x1_0_0, neg1 b (BitVec.ofNat 32 (i 0).val) s1⟩] := by
  frame_out
  rfl

theorem pieces_pos2 (c : Dev nD) (i : grid0.Coords) (arg1 : Memref sig .tc .vmem S400x25 .f32) (harg1 : arg1.IsWhole) (arg2 : Memref sig .tc .vmem S400x1280 .f32) (harg2 : arg2.IsWhole) (arg3 : Memref sig .tc .vmem S400x256 .f32) (harg3 : arg3.IsWhole) (arg4 : Memref sig .tc .vmem S400x25 .f32) (harg4 : arg4.IsWhole) (arg5 : Memref sig .tc .vmem S400x1280 .f32) (harg5 : arg5.IsWhole) (arg6 : Memref sig .tc .vmem S400x256 .f32) (harg6 : arg6.IsWhole) (arg7 : Memref sig .tc .vmem S5x5 .f32) (harg7 : arg7.IsWhole) (arg8 : Memref sig .tc .vmem S5x256 .f32) (harg8 : arg8.IsWhole) (arg9 : Memref sig .tc .vmem S5x5 .f32) (harg9 : arg9.IsWhole) (arg10 : Memref sig .tc .vmem S5x256 .f32) (harg10 : arg10.IsWhole) (arg11 : Memref sig .tc .vmem S25x3200 .f32) (harg11 : arg11.IsWhole) (arg12 : Memref sig .tc .vmem S256x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x1 .f32) (harg19 : arg19.IsWhole) (arg20 : Memref sig .tc .vmem S64x64 .f32) (harg20 : arg20.IsWhole) (arg21 : Memref sig .tc .vmem S1x1 .f32) (harg21 : arg21.IsWhole) (arg22 : Memref sig .tc .vmem S400x1 .f32) (harg22 : arg22.IsWhole) (arg23 : Memref sig .tc .vmem S400x1 .f32) (harg23 : arg23.IsWhole) (arg24 : Memref sig .tc .vmem S400x1 .f32) (harg24 : arg24.IsWhole) (arg25 : Memref sig .tc .vmem S400x1 .f32) (harg25 : arg25.IsWhole) (arg26 : Memref sig .tc .vmem S400x1 .f32) (harg26 : arg26.IsWhole) (arg27 : Memref sig .tc .vmem S400x1 .f32) (harg27 : arg27.IsWhole) (arg28 : Memref sig .tc .vmem S1x64 .f32) (harg28 : arg28.IsWhole) (arg29 : Memref sig .tc .vmem S1x64 .f32) (harg29 : arg29.IsWhole) (b : Blocks F) (s1 s2 : Vec F S1x64 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 b.adj1 b.feat1 b.raw2 b.adj2 b.feat2 b.raw1 b.adjT1 b.featT1 b.adjT2 b.featT2 b.pick b.wEnc b.bEnc b.aEnc b.wDec b.bDec b.aDec b.wb1 b.bb1 b.wb2 b.bb2 s1 s2).2.2.1 = [⟨Rect.unit ![0, 0] S400x1.size inb_S400x1_S400x1_0_0, pos2 b⟩] := by
  frame_out
  rfl

theorem pieces_neg2 (c : Dev nD) (i : grid0.Coords) (arg1 : Memref sig .tc .vmem S400x25 .f32) (harg1 : arg1.IsWhole) (arg2 : Memref sig .tc .vmem S400x1280 .f32) (harg2 : arg2.IsWhole) (arg3 : Memref sig .tc .vmem S400x256 .f32) (harg3 : arg3.IsWhole) (arg4 : Memref sig .tc .vmem S400x25 .f32) (harg4 : arg4.IsWhole) (arg5 : Memref sig .tc .vmem S400x1280 .f32) (harg5 : arg5.IsWhole) (arg6 : Memref sig .tc .vmem S400x256 .f32) (harg6 : arg6.IsWhole) (arg7 : Memref sig .tc .vmem S5x5 .f32) (harg7 : arg7.IsWhole) (arg8 : Memref sig .tc .vmem S5x256 .f32) (harg8 : arg8.IsWhole) (arg9 : Memref sig .tc .vmem S5x5 .f32) (harg9 : arg9.IsWhole) (arg10 : Memref sig .tc .vmem S5x256 .f32) (harg10 : arg10.IsWhole) (arg11 : Memref sig .tc .vmem S25x3200 .f32) (harg11 : arg11.IsWhole) (arg12 : Memref sig .tc .vmem S256x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x1 .f32) (harg19 : arg19.IsWhole) (arg20 : Memref sig .tc .vmem S64x64 .f32) (harg20 : arg20.IsWhole) (arg21 : Memref sig .tc .vmem S1x1 .f32) (harg21 : arg21.IsWhole) (arg22 : Memref sig .tc .vmem S400x1 .f32) (harg22 : arg22.IsWhole) (arg23 : Memref sig .tc .vmem S400x1 .f32) (harg23 : arg23.IsWhole) (arg24 : Memref sig .tc .vmem S400x1 .f32) (harg24 : arg24.IsWhole) (arg25 : Memref sig .tc .vmem S400x1 .f32) (harg25 : arg25.IsWhole) (arg26 : Memref sig .tc .vmem S400x1 .f32) (harg26 : arg26.IsWhole) (arg27 : Memref sig .tc .vmem S400x1 .f32) (harg27 : arg27.IsWhole) (arg28 : Memref sig .tc .vmem S1x64 .f32) (harg28 : arg28.IsWhole) (arg29 : Memref sig .tc .vmem S1x64 .f32) (harg29 : arg29.IsWhole) (b : Blocks F) (s1 s2 : Vec F S1x64 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 b.adj1 b.feat1 b.raw2 b.adj2 b.feat2 b.raw1 b.adjT1 b.featT1 b.adjT2 b.featT2 b.pick b.wEnc b.bEnc b.aEnc b.wDec b.bDec b.aDec b.wb1 b.bb1 b.wb2 b.bb2 s1 s2).2.2.2.1 = [⟨Rect.unit ![0, 0] S400x1.size inb_S400x1_S400x1_0_0, neg2 b (BitVec.ofNat 32 (i 0).val) s2⟩] := by
  frame_out
  rfl

theorem pieces_score1 (c : Dev nD) (i : grid0.Coords) (arg1 : Memref sig .tc .vmem S400x25 .f32) (harg1 : arg1.IsWhole) (arg2 : Memref sig .tc .vmem S400x1280 .f32) (harg2 : arg2.IsWhole) (arg3 : Memref sig .tc .vmem S400x256 .f32) (harg3 : arg3.IsWhole) (arg4 : Memref sig .tc .vmem S400x25 .f32) (harg4 : arg4.IsWhole) (arg5 : Memref sig .tc .vmem S400x1280 .f32) (harg5 : arg5.IsWhole) (arg6 : Memref sig .tc .vmem S400x256 .f32) (harg6 : arg6.IsWhole) (arg7 : Memref sig .tc .vmem S5x5 .f32) (harg7 : arg7.IsWhole) (arg8 : Memref sig .tc .vmem S5x256 .f32) (harg8 : arg8.IsWhole) (arg9 : Memref sig .tc .vmem S5x5 .f32) (harg9 : arg9.IsWhole) (arg10 : Memref sig .tc .vmem S5x256 .f32) (harg10 : arg10.IsWhole) (arg11 : Memref sig .tc .vmem S25x3200 .f32) (harg11 : arg11.IsWhole) (arg12 : Memref sig .tc .vmem S256x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x1 .f32) (harg19 : arg19.IsWhole) (arg20 : Memref sig .tc .vmem S64x64 .f32) (harg20 : arg20.IsWhole) (arg21 : Memref sig .tc .vmem S1x1 .f32) (harg21 : arg21.IsWhole) (arg22 : Memref sig .tc .vmem S400x1 .f32) (harg22 : arg22.IsWhole) (arg23 : Memref sig .tc .vmem S400x1 .f32) (harg23 : arg23.IsWhole) (arg24 : Memref sig .tc .vmem S400x1 .f32) (harg24 : arg24.IsWhole) (arg25 : Memref sig .tc .vmem S400x1 .f32) (harg25 : arg25.IsWhole) (arg26 : Memref sig .tc .vmem S400x1 .f32) (harg26 : arg26.IsWhole) (arg27 : Memref sig .tc .vmem S400x1 .f32) (harg27 : arg27.IsWhole) (arg28 : Memref sig .tc .vmem S1x64 .f32) (harg28 : arg28.IsWhole) (arg29 : Memref sig .tc .vmem S1x64 .f32) (harg29 : arg29.IsWhole) (b : Blocks F) (s1 s2 : Vec F S1x64 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 b.adj1 b.feat1 b.raw2 b.adj2 b.feat2 b.raw1 b.adjT1 b.featT1 b.adjT2 b.featT2 b.pick b.wEnc b.bEnc b.aEnc b.wDec b.bDec b.aDec b.wb1 b.bb1 b.wb2 b.bb2 s1 s2).2.2.2.2.1 = [⟨Rect.unit ![0, 0] S400x1.size inb_S400x1_S400x1_0_0, score1 b⟩] := by
  frame_out
  rfl

theorem pieces_score2 (c : Dev nD) (i : grid0.Coords) (arg1 : Memref sig .tc .vmem S400x25 .f32) (harg1 : arg1.IsWhole) (arg2 : Memref sig .tc .vmem S400x1280 .f32) (harg2 : arg2.IsWhole) (arg3 : Memref sig .tc .vmem S400x256 .f32) (harg3 : arg3.IsWhole) (arg4 : Memref sig .tc .vmem S400x25 .f32) (harg4 : arg4.IsWhole) (arg5 : Memref sig .tc .vmem S400x1280 .f32) (harg5 : arg5.IsWhole) (arg6 : Memref sig .tc .vmem S400x256 .f32) (harg6 : arg6.IsWhole) (arg7 : Memref sig .tc .vmem S5x5 .f32) (harg7 : arg7.IsWhole) (arg8 : Memref sig .tc .vmem S5x256 .f32) (harg8 : arg8.IsWhole) (arg9 : Memref sig .tc .vmem S5x5 .f32) (harg9 : arg9.IsWhole) (arg10 : Memref sig .tc .vmem S5x256 .f32) (harg10 : arg10.IsWhole) (arg11 : Memref sig .tc .vmem S25x3200 .f32) (harg11 : arg11.IsWhole) (arg12 : Memref sig .tc .vmem S256x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x1 .f32) (harg19 : arg19.IsWhole) (arg20 : Memref sig .tc .vmem S64x64 .f32) (harg20 : arg20.IsWhole) (arg21 : Memref sig .tc .vmem S1x1 .f32) (harg21 : arg21.IsWhole) (arg22 : Memref sig .tc .vmem S400x1 .f32) (harg22 : arg22.IsWhole) (arg23 : Memref sig .tc .vmem S400x1 .f32) (harg23 : arg23.IsWhole) (arg24 : Memref sig .tc .vmem S400x1 .f32) (harg24 : arg24.IsWhole) (arg25 : Memref sig .tc .vmem S400x1 .f32) (harg25 : arg25.IsWhole) (arg26 : Memref sig .tc .vmem S400x1 .f32) (harg26 : arg26.IsWhole) (arg27 : Memref sig .tc .vmem S400x1 .f32) (harg27 : arg27.IsWhole) (arg28 : Memref sig .tc .vmem S1x64 .f32) (harg28 : arg28.IsWhole) (arg29 : Memref sig .tc .vmem S1x64 .f32) (harg29 : arg29.IsWhole) (b : Blocks F) (s1 s2 : Vec F S1x64 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 b.adj1 b.feat1 b.raw2 b.adj2 b.feat2 b.raw1 b.adjT1 b.featT1 b.adjT2 b.featT2 b.pick b.wEnc b.bEnc b.aEnc b.wDec b.bDec b.aDec b.wb1 b.bb1 b.wb2 b.bb2 s1 s2).2.2.2.2.2.1 = [⟨Rect.unit ![0, 0] S400x1.size inb_S400x1_S400x1_0_0, score2 b⟩] := by
  frame_out
  rfl

theorem pieces_carry1 (c : Dev nD) (i : grid0.Coords) (arg1 : Memref sig .tc .vmem S400x25 .f32) (harg1 : arg1.IsWhole) (arg2 : Memref sig .tc .vmem S400x1280 .f32) (harg2 : arg2.IsWhole) (arg3 : Memref sig .tc .vmem S400x256 .f32) (harg3 : arg3.IsWhole) (arg4 : Memref sig .tc .vmem S400x25 .f32) (harg4 : arg4.IsWhole) (arg5 : Memref sig .tc .vmem S400x1280 .f32) (harg5 : arg5.IsWhole) (arg6 : Memref sig .tc .vmem S400x256 .f32) (harg6 : arg6.IsWhole) (arg7 : Memref sig .tc .vmem S5x5 .f32) (harg7 : arg7.IsWhole) (arg8 : Memref sig .tc .vmem S5x256 .f32) (harg8 : arg8.IsWhole) (arg9 : Memref sig .tc .vmem S5x5 .f32) (harg9 : arg9.IsWhole) (arg10 : Memref sig .tc .vmem S5x256 .f32) (harg10 : arg10.IsWhole) (arg11 : Memref sig .tc .vmem S25x3200 .f32) (harg11 : arg11.IsWhole) (arg12 : Memref sig .tc .vmem S256x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x1 .f32) (harg19 : arg19.IsWhole) (arg20 : Memref sig .tc .vmem S64x64 .f32) (harg20 : arg20.IsWhole) (arg21 : Memref sig .tc .vmem S1x1 .f32) (harg21 : arg21.IsWhole) (arg22 : Memref sig .tc .vmem S400x1 .f32) (harg22 : arg22.IsWhole) (arg23 : Memref sig .tc .vmem S400x1 .f32) (harg23 : arg23.IsWhole) (arg24 : Memref sig .tc .vmem S400x1 .f32) (harg24 : arg24.IsWhole) (arg25 : Memref sig .tc .vmem S400x1 .f32) (harg25 : arg25.IsWhole) (arg26 : Memref sig .tc .vmem S400x1 .f32) (harg26 : arg26.IsWhole) (arg27 : Memref sig .tc .vmem S400x1 .f32) (harg27 : arg27.IsWhole) (arg28 : Memref sig .tc .vmem S1x64 .f32) (harg28 : arg28.IsWhole) (arg29 : Memref sig .tc .vmem S1x64 .f32) (harg29 : arg29.IsWhole) (b : Blocks F) (s1 s2 : Vec F S1x64 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 b.adj1 b.feat1 b.raw2 b.adj2 b.feat2 b.raw1 b.adjT1 b.featT1 b.adjT2 b.featT2 b.pick b.wEnc b.bEnc b.aEnc b.wDec b.bDec b.aDec b.wb1 b.bb1 b.wb2 b.bb2 s1 s2).2.2.2.2.2.2.1 = [⟨Rect.unit ![0, 0] S1x64.size inb_S1x64_S1x64_0_0, carry1 b⟩] := by
  frame_out
  rfl

theorem pieces_carry2 (c : Dev nD) (i : grid0.Coords) (arg1 : Memref sig .tc .vmem S400x25 .f32) (harg1 : arg1.IsWhole) (arg2 : Memref sig .tc .vmem S400x1280 .f32) (harg2 : arg2.IsWhole) (arg3 : Memref sig .tc .vmem S400x256 .f32) (harg3 : arg3.IsWhole) (arg4 : Memref sig .tc .vmem S400x25 .f32) (harg4 : arg4.IsWhole) (arg5 : Memref sig .tc .vmem S400x1280 .f32) (harg5 : arg5.IsWhole) (arg6 : Memref sig .tc .vmem S400x256 .f32) (harg6 : arg6.IsWhole) (arg7 : Memref sig .tc .vmem S5x5 .f32) (harg7 : arg7.IsWhole) (arg8 : Memref sig .tc .vmem S5x256 .f32) (harg8 : arg8.IsWhole) (arg9 : Memref sig .tc .vmem S5x5 .f32) (harg9 : arg9.IsWhole) (arg10 : Memref sig .tc .vmem S5x256 .f32) (harg10 : arg10.IsWhole) (arg11 : Memref sig .tc .vmem S25x3200 .f32) (harg11 : arg11.IsWhole) (arg12 : Memref sig .tc .vmem S256x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x1 .f32) (harg19 : arg19.IsWhole) (arg20 : Memref sig .tc .vmem S64x64 .f32) (harg20 : arg20.IsWhole) (arg21 : Memref sig .tc .vmem S1x1 .f32) (harg21 : arg21.IsWhole) (arg22 : Memref sig .tc .vmem S400x1 .f32) (harg22 : arg22.IsWhole) (arg23 : Memref sig .tc .vmem S400x1 .f32) (harg23 : arg23.IsWhole) (arg24 : Memref sig .tc .vmem S400x1 .f32) (harg24 : arg24.IsWhole) (arg25 : Memref sig .tc .vmem S400x1 .f32) (harg25 : arg25.IsWhole) (arg26 : Memref sig .tc .vmem S400x1 .f32) (harg26 : arg26.IsWhole) (arg27 : Memref sig .tc .vmem S400x1 .f32) (harg27 : arg27.IsWhole) (arg28 : Memref sig .tc .vmem S1x64 .f32) (harg28 : arg28.IsWhole) (arg29 : Memref sig .tc .vmem S1x64 .f32) (harg29 : arg29.IsWhole) (b : Blocks F) (s1 s2 : Vec F S1x64 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 b.adj1 b.feat1 b.raw2 b.adj2 b.feat2 b.raw1 b.adjT1 b.featT1 b.adjT2 b.featT2 b.pick b.wEnc b.bEnc b.aEnc b.wDec b.bDec b.aDec b.wb1 b.bb1 b.wb2 b.bb2 s1 s2).2.2.2.2.2.2.2.1 = [⟨Rect.unit ![0, 0] S1x64.size inb_S1x64_S1x64_0_0, carry2 b⟩] := by
  frame_out
  rfl

end Cert.KernelIdeal.Hand

end
-- ==== Proof.Point.lean ====
/- The pipelined launch: what its buffers hold point by point, the body obligation, the run and the frame. -/
module

public import proofs.«01_k».proof.Proof.Outputs
public import proofs.«01_k».proof.Proof.Gen.KernelIdeal.Points
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body over explicit values -/

/-- A buffer written once over its whole shape reads back what was written. -/
theorem read_one {κ : Kind} {sp : Space} {S : Shape} {e : EltTy} (v : View sig κ sp S e) (f : v.ty.Contents (Elt F))
    {off : Fin S.rank → ℕ} (inb : ∀ a, off a + S.size a ≤ S.size a) (w : S.Idx → Elt F e) (h : ∀ a, off a = 0) :
    v.read (Elt F) (v.writes (Elt F) f [(⟨Rect.unit off S.size inb, w⟩ : View.Piece (Elt F) S e)]) = w :=
  funext fun y => View.read_writes_cons_unit_of_mem v f inb w [] y y (off' := fun _ => 0) (funext h) fun a => (Nat.zero_add _).symm

theorem zero_pair : ∀ a : Fin 2, (![0, 0] : Fin 2 → ℕ) a = 0 := by decide

set_option maxHeartbeats 4000000 in
/-- The body at one grid point: from its inputs' buffers at `b`, the outputs' at anything and the two carried rows at
    `s1` and `s2`, it returns the inputs as they were, each output at its value and the carried rows at the new ones. -/
theorem body_runs (c : Dev nD) (i : grid0.Coords) (arg1 : Memref sig .tc .vmem S400x25 .f32) (harg1 : arg1.IsWhole) (arg2 : Memref sig .tc .vmem S400x1280 .f32) (harg2 : arg2.IsWhole) (arg3 : Memref sig .tc .vmem S400x256 .f32) (harg3 : arg3.IsWhole) (arg4 : Memref sig .tc .vmem S400x25 .f32) (harg4 : arg4.IsWhole) (arg5 : Memref sig .tc .vmem S400x1280 .f32) (harg5 : arg5.IsWhole) (arg6 : Memref sig .tc .vmem S400x256 .f32) (harg6 : arg6.IsWhole) (arg7 : Memref sig .tc .vmem S5x5 .f32) (harg7 : arg7.IsWhole) (arg8 : Memref sig .tc .vmem S5x256 .f32) (harg8 : arg8.IsWhole) (arg9 : Memref sig .tc .vmem S5x5 .f32) (harg9 : arg9.IsWhole) (arg10 : Memref sig .tc .vmem S5x256 .f32) (harg10 : arg10.IsWhole) (arg11 : Memref sig .tc .vmem S25x3200 .f32) (harg11 : arg11.IsWhole) (arg12 : Memref sig .tc .vmem S256x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x1 .f32) (harg19 : arg19.IsWhole) (arg20 : Memref sig .tc .vmem S64x64 .f32) (harg20 : arg20.IsWhole) (arg21 : Memref sig .tc .vmem S1x1 .f32) (harg21 : arg21.IsWhole) (arg22 : Memref sig .tc .vmem S400x1 .f32) (harg22 : arg22.IsWhole) (arg23 : Memref sig .tc .vmem S400x1 .f32) (harg23 : arg23.IsWhole) (arg24 : Memref sig .tc .vmem S400x1 .f32) (harg24 : arg24.IsWhole) (arg25 : Memref sig .tc .vmem S400x1 .f32) (harg25 : arg25.IsWhole) (arg26 : Memref sig .tc .vmem S400x1 .f32) (harg26 : arg26.IsWhole) (arg27 : Memref sig .tc .vmem S400x1 .f32) (harg27 : arg27.IsWhole) (arg28 : Memref sig .tc .vmem S1x64 .f32) (harg28 : arg28.IsWhole) (arg29 : Memref sig .tc .vmem S1x64 .f32) (harg29 : arg29.IsWhole) (b : Blocks F) (s1 s2 : Vec F S1x64 .f32) (E : Set ℕ) (K : PUnit → sProp 𝕄) :
    iprop(owns (c : Thread nD τ) arg1 fullShare b.adj1
        ∗ owns (c : Thread nD τ) arg2 fullShare b.feat1
        ∗ owns (c : Thread nD τ) arg3 fullShare b.raw2
        ∗ owns (c : Thread nD τ) arg4 fullShare b.adj2
        ∗ owns (c : Thread nD τ) arg5 fullShare b.feat2
        ∗ owns (c : Thread nD τ) arg6 fullShare b.raw1
        ∗ owns (c : Thread nD τ) arg7 fullShare b.adjT1
        ∗ owns (c : Thread nD τ) arg8 fullShare b.featT1
        ∗ owns (c : Thread nD τ) arg9 fullShare b.adjT2
        ∗ owns (c : Thread nD τ) arg10 fullShare b.featT2
        ∗ owns (c : Thread nD τ) arg11 fullShare b.pick
        ∗ owns (c : Thread nD τ) arg12 fullShare b.wEnc
        ∗ owns (c : Thread nD τ) arg13 fullShare b.bEnc
        ∗ owns (c : Thread nD τ) arg14 fullShare b.aEnc
        ∗ owns (c : Thread nD τ) arg15 fullShare b.wDec
        ∗ owns (c : Thread nD τ) arg16 fullShare b.bDec
        ∗ owns (c : Thread nD τ) arg17 fullShare b.aDec
        ∗ owns (c : Thread nD τ) arg18 fullShare b.wb1
        ∗ owns (c : Thread nD τ) arg19 fullShare b.bb1
        ∗ owns (c : Thread nD τ) arg20 fullShare b.wb2
        ∗ owns (c : Thread nD τ) arg21 fullShare b.bb2
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) arg27 fullShare d)
        ∗ owns (c : Thread nD τ) arg28 fullShare s1 ∗ owns (c : Thread nD τ) arg29 fullShare s2
        ∗ (iprop(owns (c : Thread nD τ) arg1 fullShare b.adj1
        ∗ owns (c : Thread nD τ) arg2 fullShare b.feat1
        ∗ owns (c : Thread nD τ) arg3 fullShare b.raw2
        ∗ owns (c : Thread nD τ) arg4 fullShare b.adj2
        ∗ owns (c : Thread nD τ) arg5 fullShare b.feat2
        ∗ owns (c : Thread nD τ) arg6 fullShare b.raw1
        ∗ owns (c : Thread nD τ) arg7 fullShare b.adjT1
        ∗ owns (c : Thread nD τ) arg8 fullShare b.featT1
        ∗ owns (c : Thread nD τ) arg9 fullShare b.adjT2
        ∗ owns (c : Thread nD τ) arg10 fullShare b.featT2
        ∗ owns (c : Thread nD τ) arg11 fullShare b.pick
        ∗ owns (c : Thread nD τ) arg12 fullShare b.wEnc
        ∗ owns (c : Thread nD τ) arg13 fullShare b.bEnc
        ∗ owns (c : Thread nD τ) arg14 fullShare b.aEnc
        ∗ owns (c : Thread nD τ) arg15 fullShare b.wDec
        ∗ owns (c : Thread nD τ) arg16 fullShare b.bDec
        ∗ owns (c : Thread nD τ) arg17 fullShare b.aDec
        ∗ owns (c : Thread nD τ) arg18 fullShare b.wb1
        ∗ owns (c : Thread nD τ) arg19 fullShare b.bb1
        ∗ owns (c : Thread nD τ) arg20 fullShare b.wb2
        ∗ owns (c : Thread nD τ) arg21 fullShare b.bb2
        ∗ owns (c : Thread nD τ) arg22 fullShare (pos1 b)
        ∗ owns (c : Thread nD τ) arg23 fullShare (neg1 b (BitVec.ofNat 32 (i 0).val) s1)
        ∗ owns (c : Thread nD τ) arg24 fullShare (pos2 b)
        ∗ owns (c : Thread nD τ) arg25 fullShare (neg2 b (BitVec.ofNat 32 (i 0).val) s2)
        ∗ owns (c : Thread nD τ) arg26 fullShare (score1 b)
        ∗ owns (c : Thread nD τ) arg27 fullShare (score2 b)
        ∗ owns (c : Thread nD τ) arg28 fullShare (carry1 b)
        ∗ owns (c : Thread nD τ) arg29 fullShare (carry2 b)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  iintro ⟨H0, H1, H2, H3, H4, H5, H6, H7, H8, H9, H10, H11, H12, H13, H14, H15, H16, H17, H18, H19, H20, H21, H22, H23, H24, H25, H26, HS0, HS1, Hk⟩
  iapply ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 b.adj1 b.feat1 b.raw2 b.adj2 b.feat2 b.raw1 b.adjT1 b.featT1 b.adjT2 b.featT2 b.pick b.wEnc b.bEnc b.aEnc b.wDec b.bDec b.aDec b.wb1 b.bb1 b.wb2 b.bb2 s1 s2).2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [HS0]; · iexact HS0
  isplitl [HS1]; · iexact HS1
  iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%e25, H25⟩, ⟨%e26, H26⟩, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro; rw [pieces_pos1]; exact read_one _ _ _ _ zero_pair
  isplitl [H22]
  · unfold owns; iexists _; isplitr
    swap; · iexact H22
    ipureintro; rw [pieces_neg1]; exact read_one _ _ _ _ zero_pair
  isplitl [H23]
  · unfold owns; iexists _; isplitr
    swap; · iexact H23
    ipureintro; rw [pieces_pos2]; exact read_one _ _ _ _ zero_pair
  isplitl [H24]
  · unfold owns; iexists _; isplitr
    swap; · iexact H24
    ipureintro; rw [pieces_neg2]; exact read_one _ _ _ _ zero_pair
  isplitl [H25]
  · unfold owns; iexists _; isplitr
    swap; · iexact H25
    ipureintro; rw [pieces_score1]; exact read_one _ _ _ _ zero_pair
  isplitl [H26]
  · unfold owns; iexists _; isplitr
    swap; · iexact H26
    ipureintro; rw [pieces_score2]; exact read_one _ _ _ _ zero_pair
  isplitl [HS0]
  · unfold owns; iexists _; isplitr
    swap; · iexact HS0
    ipureintro; rw [pieces_carry1]; exact read_one _ _ _ _ zero_pair
  unfold owns; iexists _; isplitr
  swap; · iexact HS1
  ipureintro; rw [pieces_carry2]; exact read_one _ _ _ _ zero_pair

/-! ## The buffers the pipeline passes -/

/-- Each window's staging buffer at point `t`, and that it is whole. -/
abbrev ms0_0 (t : Fin cfg0.N) : Memref sig .tc .vmem S400x25 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S400x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x25 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5x5 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S5x5 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S5x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S25x3200 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x64 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S64x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S64x64 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S64x64 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S400x1 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S400x1 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S400x1 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S400x1 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S400x1 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S400x1 .f32 := win0_26.stage (cfg0.slots t 26)
abbrev hs0_26 (t : Fin cfg0.N) : (ms0_26 t).IsWhole := hstage0_26 ((cfg0.slots t 26).cast nbuf0_26)

/-- The two carried rows' buffers. -/
abbrev row1 : Memref sig .tc .vmem S1x64 .f32 := Memref.whole cc0_scratch0
abbrev row2 : Memref sig .tc .vmem S1x64 .f32 := Memref.whole cc0_scratch1

/-- What the region's launch hands over: the two rows at anything and the generator register at some state. -/
theorem start_eq (c : Dev nD) :
    (Pipeline.ΦA spec0 c : sProp 𝕄)
      = iprop(iprop((∃ d, owns (c : Thread nD τ) row1 fullShare d) ∗ (∃ d, owns (c : Thread nD τ) row2 fullShare d)) ∗ (∃ r, prngReg c r)) := by
  unfold Pipeline.ΦA; rw [scopedRest0_eq]; simp only [row1, row2, owns_whole]; try rfl

/-! ## The contents point by point -/

variable (m : (ℓ : Loc nD τ sig) → Buf (Elt F) ℓ) (ρ : Dev nD → PrngReg)

/-- The input blocks at point `t`. -/
def blocks (c : Dev nD) (t : Fin cfg0.N) : Blocks F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t⟩

/-- The point before `t` (the first point itself, at the first point). -/
def pred (t : Fin cfg0.N) : Fin cfg0.N := ⟨t.val - 1, Nat.lt_of_le_of_lt (Nat.sub_le _ _) t.isLt⟩

/-- The row the first view carries into point `t`; at the first point, where nothing depends on it, its own. -/
def before1 (c : Dev nD) (t : Fin cfg0.N) : Vec F S1x64 .f32 := carry1 (blocks m c (pred t))
/-- The row the second view carries into point `t`. -/
def before2 (c : Dev nD) (t : Fin cfg0.N) : Vec F S1x64 .f32 := carry2 (blocks m c (pred t))

/-- The invariant before position `n`: at the start the launch's; afterwards the rows the point before carried. -/
def PhiS (c : Dev nD) : (n : ℕ) → n ≤ cfg0.N → sProp 𝕄
  | 0, _ => Pipeline.ΦA spec0 c
  | n + 1, hn => iprop(iprop(owns (c : Thread nD τ) row1 fullShare (carry1 (blocks m c ⟨n, hn⟩)) ∗ owns (c : Thread nD τ) row2 fullShare (carry2 (blocks m c ⟨n, hn⟩))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) row1 fullShare (carry1 (blocks m c t)) ∗ owns (c : Thread nD τ) row2 fullShare (carry2 (blocks m c t))) ∗ (∃ r, prngReg c r)) := rfl

theorem PhiS_pos (c : Dev nD) (t : Fin cfg0.N) (hz : t.val ≠ 0) :
    PhiS m c t.val (Nat.le_of_lt t.isLt) = iprop(iprop(owns (c : Thread nD τ) row1 fullShare (before1 m c t) ∗ owns (c : Thread nD τ) row2 fullShare (before2 m c t)) ∗ (∃ r, prngReg c r)) := by
  obtain ⟨n, hn⟩ := t
  cases n with
  | zero => exact absurd rfl hz
  | succ n => rfl

/-- The pipeline's proof data: each input's buffer at its block, each output's at its value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => pos1 (blocks m c t)
    | ⟨22, _⟩ => neg1 (blocks m c t) (BitVec.ofNat 32 ((grid0.coords t) 0).val) (before1 m c t)
    | ⟨23, _⟩ => pos2 (blocks m c t)
    | ⟨24, _⟩ => neg2 (blocks m c t) (BitVec.ofNat 32 ((grid0.coords t) 0).val) (before2 m c t)
    | ⟨25, _⟩ => score1 (blocks m c t)
    | ⟨26, _⟩ => score2 (blocks m c t)
    | ⟨_ + 27, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = pos1 (blocks m c t) := by dsimp only [dats]
theorem after0_22 (c : Dev nD) (t : Fin cfg0.N) : (dats m 0 c).after 22 t = neg1 (blocks m c t) (BitVec.ofNat 32 ((grid0.coords t) 0).val) (before1 m c t) := by dsimp only [dats]
theorem after0_23 (c : Dev nD) (t : Fin cfg0.N) : (dats m 0 c).after 23 t = pos2 (blocks m c t) := by dsimp only [dats]
theorem after0_24 (c : Dev nD) (t : Fin cfg0.N) : (dats m 0 c).after 24 t = neg2 (blocks m c t) (BitVec.ofNat 32 ((grid0.coords t) 0).val) (before2 m c t) := by dsimp only [dats]
theorem after0_25 (c : Dev nD) (t : Fin cfg0.N) : (dats m 0 c).after 25 t = score1 (blocks m c t) := by dsimp only [dats]
theorem after0_26 (c : Dev nD) (t : Fin cfg0.N) : (dats m 0 c).after 26 t = score2 (blocks m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation -/

/-- At the first point the carried row is not read: a row computed afresh takes its place. -/
theorem neg1_first (b : Blocks F) (s s' : Vec F S1x64 .f32) : neg1 b 0#32 s = neg1 b 0#32 s' := rfl
theorem neg2_first (b : Blocks F) (s s' : Vec F S1x64 .f32) : neg2 b 0#32 s = neg2 b 0#32 s' := rfl

theorem coord_val : ∀ t : Fin cfg0.N, ((grid0.coords t) 0).val = t.val := (by decide +kernel : ∀ t : Fin grid0.N, _)

/-- The invariant at a point, opened: the rows at contents at which the outputs are the stated ones. -/
theorem PhiS_open (c : Dev nD) (t : Fin cfg0.N) :
    PhiS m c t.val (Nat.le_of_lt t.isLt) ⊢ iprop(∃ s1 s2, ⌜neg1 (blocks m c t) (BitVec.ofNat 32 ((grid0.coords t) 0).val) s1 = neg1 (blocks m c t) (BitVec.ofNat 32 ((grid0.coords t) 0).val) (before1 m c t)
        ∧ neg2 (blocks m c t) (BitVec.ofNat 32 ((grid0.coords t) 0).val) s2 = neg2 (blocks m c t) (BitVec.ofNat 32 ((grid0.coords t) 0).val) (before2 m c t)⌝
      ∗ owns (c : Thread nD τ) row1 fullShare s1 ∗ owns (c : Thread nD τ) row2 fullShare s2 ∗ (∃ r, prngReg c r)) := by
  by_cases hz : t.val = 0
  · rw [PhiS_zero m c _ _ hz, start_eq]
    iintro ⟨⟨⟨%s1, H1⟩, ⟨%s2, H2⟩⟩, Hg⟩
    iexists s1; iexists s2
    isplitr
    · ipureintro; rw [coord_val, hz]; exact ⟨neg1_first _ _ _, neg2_first _ _ _⟩
    isplitl [H1]; · iexact H1
    isplitl [H2]; · iexact H2
    iexact Hg
  · rw [PhiS_pos m c t hz]
    iintro ⟨⟨H1, H2⟩, Hg⟩
    iexists (before1 m c t); iexists (before2 m c t)
    isplitr
    · ipureintro; exact ⟨rfl, rfl⟩
    isplitl [H1]; · iexact H1
    isplitl [H2]; · iexact H2
    iexact Hg

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.succ = PhiS m c (t.val + 1) t.isLt from rfl, PhiS_succ, PhiS_castSucc m c t]
  iintro ⟨HP, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  ihave HQ := (PhiS_open m c t) $$ HP
  icases HQ with ⟨%s1, %s2, %hs, HS0, HS1, Hg⟩
  rw [← hs.1, ← hs.2]
  iapply (body_runs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) row1 (Memref.isWhole_whole _) row2 (Memref.isWhole_whole _) (blocks m c t) s1 s2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, H26, HS0, HS1⟩
  isplitl [HS0 HS1 Hg]
  · isplitl [HS0 HS1]
    · isplitl [HS0]; · iexact HS0
      iexact HS1
    iexact Hg
  isplitl [Howe]; · iexact Howe
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The last point of the grid. -/
def lastPt : Fin cfg0.N := ⟨24, by rw [show cfg0.N = 25 from N_0]; decide⟩

theorem hout (c : Dev nD) : (dats m 0 c).Φ (Fin.last cfg0.N) ⊢ Pipeline.ΦA spec0 c := by
  rw [show (dats m 0 c).Φ (Fin.last cfg0.N) = PhiS m c (lastPt.val + 1) lastPt.isLt from rfl, PhiS_succ, start_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
set_option maxHeartbeats 800000 in
/-- Every execution of the program ends with the arrays as the proof data says and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the program ends, its argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Spec.lean ====
/- The mathematics of one batch element, over the extended reals: a graph convolution over five nodes,
   a bilinear discriminator on its hidden rows, and the distance of a decoded row to a target. -/
module

public import Idealize.ShloMosaic.Lib.Pointwise

@[expose] public section

noncomputable section

namespace Cert.Spec

open Idealize.ShloMosaic

/-- The leaky rectifier with slope `a`. -/
def prelu (a z : EReal) : EReal := if 0 ≤ z then z else a * z

/-- The encoder's parameters. -/
structure Enc where
  w : Fin 256 → Fin 64 → EReal
  b : Fin 64 → EReal
  a : EReal

/-- The decoder's parameters. -/
structure Dec where
  w : Fin 64 → Fin 256 → EReal
  b : Fin 256 → EReal
  a : EReal

/-- One node's features through the encoder's weight. -/
def feat (w : Fin 256 → Fin 64 → EReal) (x : Fin 256 → EReal) (k : Fin 64) : EReal := ∑ d : Fin 256, x d * w d k

/-- Node `n` of the hidden layer, the adjacency being `A` and the nodes' features `X`. -/
def hid (e : Enc) (A : Fin 5 → Fin 5 → EReal) (X : Fin 5 → Fin 256 → EReal) (n : Fin 5) (k : Fin 64) : EReal :=
  prelu e.a ((∑ m : Fin 5, A n m * feat e.w (X m) k) + e.b k)

/-- The mean of the four context nodes. -/
def ctx (e : Enc) (A : Fin 5 → Fin 5 → EReal) (X : Fin 5 → Fin 256 → EReal) (k : Fin 64) : EReal :=
  (hid e A X 0 k + hid e A X 1 k + hid e A X 2 k + hid e A X 3 k) / 4

/-- The discriminator: the bilinear form of a target row `h` and a context row `c`, and a bias. -/
def logit (W : Fin 64 → Fin 64 → EReal) (bias : EReal) (h c : Fin 64 → EReal) : EReal :=
  (∑ j : Fin 64, (∑ i : Fin 64, h i * W i j) * c j) + bias

/-- The small number under the square root. -/
def eps : EReal := Ideal.ofBits .f32 0x2B8CBCCC#32

/-- The decoded target row: the decoder's weight applied to each hidden row, the rows then mixed. -/
def dec (e : Enc) (d : Dec) (A : Fin 5 → Fin 5 → EReal) (X : Fin 5 → Fin 256 → EReal) (j : Fin 256) : EReal :=
  prelu d.a ((∑ n : Fin 5, A 4 n * ∑ k : Fin 64, hid e A X n k * d.w k j) + d.b j)

/-- The decoded target row: the hidden rows mixed first, the decoder's weight applied once. -/
def decMix (e : Enc) (d : Dec) (A : Fin 5 → Fin 5 → EReal) (X : Fin 5 → Fin 256 → EReal) (j : Fin 256) : EReal :=
  prelu d.a ((∑ k : Fin 64, (∑ n : Fin 5, A 4 n * hid e A X n k) * d.w k j) + d.b j)

/-- The distance of a row `y` to a target row `x`. -/
def dist (y x : Fin 256 → EReal) : EReal :=
  Ideal.sqrt ((∑ j : Fin 256, (y j - x j) * (y j - x j)) + eps)

/-- The word of the float four. -/
theorem ofBits_four : Ideal.ofBits .f32 0x40800000#32 = (4 : EReal) := by
  rw [show (4 : EReal) = ((4 : ℝ) : EReal) by norm_cast]
  simp [Ideal.ofBits, Ideal.ieee, -EReal.coe_mul]; norm_num

/-- The word of the float one quarter. -/
theorem ofBits_quarter : Ideal.ofBits .f32 0x3E800000#32 = (4 : EReal)⁻¹ := by
  rw [show (4 : EReal)⁻¹ = ((4⁻¹ : ℝ) : EReal) by norm_cast]
  simp [Ideal.ofBits, Ideal.ieee, -EReal.coe_mul]; norm_num

/-- Multiplying by the float one quarter divides by four. -/
theorem mul_quarter (x : EReal) : x * Ideal.ofBits .f32 0x3E800000#32 = x / 4 := by
  rw [ofBits_quarter, div_eq_mul_inv]

/-- Dividing by the float four. -/
theorem div_four (x : EReal) : Ideal.div x (Ideal.ofBits .f32 0x40800000#32) = x / 4 := by
  rw [ofBits_four, Ideal.div, if_neg (by norm_num), div_eq_mul_inv]

/-- A node of the hidden layer, its five terms added one after the other. -/
theorem hid_of (e : Enc) (A : Fin 5 → Fin 5 → EReal) (X : Fin 5 → Fin 256 → EReal) (n : Fin 5) (k : Fin 64)
    {c0 c1 c2 c3 c4 f0 f1 f2 f3 f4 b a : EReal} (hc0 : c0 = A n 0) (hc1 : c1 = A n 1) (hc2 : c2 = A n 2)
    (hc3 : c3 = A n 3) (hc4 : c4 = A n 4) (hf0 : f0 = feat e.w (X 0) k) (hf1 : f1 = feat e.w (X 1) k)
    (hf2 : f2 = feat e.w (X 2) k) (hf3 : f3 = feat e.w (X 3) k) (hf4 : f4 = feat e.w (X 4) k)
    (hb : b = e.b k) (ha : a = e.a) :
    (if 0 ≤ c0 * f0 + c1 * f1 + c2 * f2 + c3 * f3 + c4 * f4 + b then c0 * f0 + c1 * f1 + c2 * f2 + c3 * f3 + c4 * f4 + b
      else a * (c0 * f0 + c1 * f1 + c2 * f2 + c3 * f3 + c4 * f4 + b)) = hid e A X n k := by
  subst hc0 hc1 hc2 hc3 hc4 hf0 hf1 hf2 hf3 hf4 hb ha
  simp only [hid, prelu, Fin.sum_univ_five]

/-- The mixed target row, its five terms added one after the other. -/
theorem decMix_of (e : Enc) (d : Dec) (A : Fin 5 → Fin 5 → EReal) (X : Fin 5 → Fin 256 → EReal) (j : Fin 256)
    {c0 c1 c2 c3 c4 f0 f1 f2 f3 f4 : Fin 64 → EReal} {w : Fin 64 → EReal} {b a : EReal}
    (hc0 : ∀ k, c0 k = A 4 0) (hc1 : ∀ k, c1 k = A 4 1) (hc2 : ∀ k, c2 k = A 4 2)
    (hc3 : ∀ k, c3 k = A 4 3) (hc4 : ∀ k, c4 k = A 4 4) (hf0 : ∀ k, f0 k = hid e A X 0 k) (hf1 : ∀ k, f1 k = hid e A X 1 k)
    (hf2 : ∀ k, f2 k = hid e A X 2 k) (hf3 : ∀ k, f3 k = hid e A X 3 k) (hf4 : ∀ k, f4 k = hid e A X 4 k)
    (hw : ∀ k, w k = d.w k j) (hb : b = d.b j) (ha : a = d.a) :
    (if 0 ≤ ∑ k, (c0 k * f0 k + c1 k * f1 k + c2 k * f2 k + c3 k * f3 k + c4 k * f4 k) * w k + b
      then ∑ k, (c0 k * f0 k + c1 k * f1 k + c2 k * f2 k + c3 k * f3 k + c4 k * f4 k) * w k + b
      else a * (∑ k, (c0 k * f0 k + c1 k * f1 k + c2 k * f2 k + c3 k * f3 k + c4 k * f4 k) * w k + b)) =
      decMix e d A X j := by
  subst hb ha
  simp only [hc0, hc1, hc2, hc3, hc4, hf0, hf1, hf2, hf3, hf4, hw, decMix, prelu, Fin.sum_univ_five]

end Cert.Spec

end
-- ==== Proof.Batch.lean ====
/- The results of the whole batch: one view's logits against its own and its predecessor's context, and its scores. -/
module

public import proofs.«01_k».proof.Proof.Spec

@[expose] public section

noncomputable section

namespace Cert.Spec

/-- One view of the batch: adjacencies, features, the rows it is compared with, its discriminator. -/
structure Side where
  A : Fin 10000 → Fin 5 → Fin 5 → EReal
  X : Fin 10000 → Fin 5 → Fin 256 → EReal
  T : Fin 10000 → Fin 256 → EReal
  W : Fin 64 → Fin 64 → EReal
  bias : EReal

/-- The batch element before `n`; the last one before the first. -/
def prev (n : Fin 10000) : Fin 10000 := if n.val = 0 then 9999 else ⟨n.val - 1, by omega⟩

/-- The positive logit: target row against the element's own context. -/
def Side.pos (s : Side) (e : Enc) (n : Fin 10000) : EReal :=
  logit s.W s.bias (hid e (s.A n) (s.X n) 4) (ctx e (s.A n) (s.X n))

/-- The negative logit: target row against the context of the element before. -/
def Side.neg (s : Side) (e : Enc) (n : Fin 10000) : EReal :=
  logit s.W s.bias (hid e (s.A n) (s.X n) 4) (ctx e (s.A (prev n)) (s.X (prev n)))

/-- The score: the decoded target row's distance to the row it is compared with. -/
def Side.score (s : Side) (e : Enc) (d : Dec) (n : Fin 10000) : EReal := dist (dec e d (s.A n) (s.X n)) (s.T n)

/-- The score with the hidden rows mixed before they are decoded. -/
def Side.scoreMix (s : Side) (e : Enc) (d : Dec) (n : Fin 10000) : EReal := dist (decMix e d (s.A n) (s.X n)) (s.T n)

/-- The predecessor of an element that is not the first. -/
theorem prev_of_pos {n k : Fin 10000} (h : k.val + 1 = n.val) : prev n = k := by
  unfold prev
  rw [if_neg (by omega)]
  exact Fin.ext (by dsimp only; omega)

/-- The predecessor of the first element. -/
theorem prev_of_zero {n : Fin 10000} (h : n.val = 0) : prev n = 9999 := if_pos h

/-- Six columns of the batch, one after the other. -/
def joined (p1 n1 p2 n2 s1 s2 : Fin 10000 → EReal) (i : Fin 60000) : EReal :=
  if h : i.val < 10000 then p1 ⟨i.val, h⟩
  else if h : i.val < 20000 then n1 ⟨i.val - 10000, by omega⟩
  else if h : i.val < 30000 then p2 ⟨i.val - 20000, by omega⟩
  else if h : i.val < 40000 then n2 ⟨i.val - 30000, by omega⟩
  else if h : i.val < 50000 then s1 ⟨i.val - 40000, by omega⟩
  else s2 ⟨i.val - 50000, by omega⟩

theorem joined_0 (p1 n1 p2 n2 s1 s2 : Fin 10000 → EReal) {i : Fin 60000} {n : Fin 10000} (h : i.val = 0 + n.val) :
    joined p1 n1 p2 n2 s1 s2 i = p1 n := by
  unfold joined
  rw [dif_pos (show i.val < 10000 by omega)]
  exact congrArg p1 (Fin.ext (by dsimp only; omega))

theorem joined_1 (p1 n1 p2 n2 s1 s2 : Fin 10000 → EReal) {i : Fin 60000} {n : Fin 10000} (h : i.val = 10000 + n.val) :
    joined p1 n1 p2 n2 s1 s2 i = n1 n := by
  unfold joined
  rw [dif_neg (show ¬ i.val < 10000 by omega), dif_pos (show i.val < 20000 by omega)]
  exact congrArg n1 (Fin.ext (by dsimp only; omega))

theorem joined_2 (p1 n1 p2 n2 s1 s2 : Fin 10000 → EReal) {i : Fin 60000} {n : Fin 10000} (h : i.val = 20000 + n.val) :
    joined p1 n1 p2 n2 s1 s2 i = p2 n := by
  unfold joined
  rw [dif_neg (show ¬ i.val < 10000 by omega), dif_neg (show ¬ i.val < 20000 by omega), dif_pos (show i.val < 30000 by omega)]
  exact congrArg p2 (Fin.ext (by dsimp only; omega))

theorem joined_3 (p1 n1 p2 n2 s1 s2 : Fin 10000 → EReal) {i : Fin 60000} {n : Fin 10000} (h : i.val = 30000 + n.val) :
    joined p1 n1 p2 n2 s1 s2 i = n2 n := by
  unfold joined
  rw [dif_neg (show ¬ i.val < 10000 by omega), dif_neg (show ¬ i.val < 20000 by omega), dif_neg (show ¬ i.val < 30000 by omega), dif_pos (show i.val < 40000 by omega)]
  exact congrArg n2 (Fin.ext (by dsimp only; omega))

theorem joined_4 (p1 n1 p2 n2 s1 s2 : Fin 10000 → EReal) {i : Fin 60000} {n : Fin 10000} (h : i.val = 40000 + n.val) :
    joined p1 n1 p2 n2 s1 s2 i = s1 n := by
  unfold joined
  rw [dif_neg (show ¬ i.val < 10000 by omega), dif_neg (show ¬ i.val < 20000 by omega), dif_neg (show ¬ i.val < 30000 by omega), dif_neg (show ¬ i.val < 40000 by omega), dif_pos (show i.val < 50000 by omega)]
  exact congrArg s1 (Fin.ext (by dsimp only; omega))

theorem joined_5 (p1 n1 p2 n2 s1 s2 : Fin 10000 → EReal) {i : Fin 60000} {n : Fin 10000} (h : i.val = 50000 + n.val) :
    joined p1 n1 p2 n2 s1 s2 i = s2 n := by
  unfold joined
  rw [dif_neg (show ¬ i.val < 10000 by omega), dif_neg (show ¬ i.val < 20000 by omega), dif_neg (show ¬ i.val < 30000 by omega), dif_neg (show ¬ i.val < 40000 by omega), dif_neg (show ¬ i.val < 50000 by omega)]
  exact congrArg s2 (Fin.ext (by dsimp only; omega))

end Cert.Spec

end
-- ==== Proof.Finite.lean ====
/- With finite hidden rows, mixing them before or after the decoder's weight is the same. -/
module

public import proofs.«01_k».proof.Proof.Batch

@[expose] public section

noncomputable section

namespace Cert.Spec

/-- The value is a real number. -/
def IsReal (x : EReal) : Prop := ∃ r : ℝ, x = (r : EReal)

/-- A value whose difference with itself is zero is a real number. -/
theorem IsReal.of_sub {x : EReal} (h : x - x = 0) : IsReal x := by
  induction x using EReal.rec with
  | bot => simp at h
  | coe r => exact ⟨r, rfl⟩
  | top => simp at h

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ i, IsReal (f i)) : IsReal (∑ i, f i) :=
  Finset.sum_induction f IsReal (fun _ _ => IsReal.add) IsReal.zero fun i _ => h i

/-- A finite sum of reals, read in the extended reals. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- Rows of reals mixed by `a` and then multiplied by `w`, or multiplied first and then mixed. -/
theorem mix_comm (a : Fin 5 → EReal) (h : Fin 5 → Fin 64 → EReal) (w : Fin 64 → EReal) (ha : ∀ n, IsReal (a n))
    (hh : ∀ n k, IsReal (h n k)) (hw : ∀ k, IsReal (w k)) :
    ∑ n, a n * ∑ k, h n k * w k = ∑ k, (∑ n, a n * h n k) * w k := by
  choose a' ha using ha
  choose h' hh using hh
  choose w' hw using hw
  simp only [ha, hh, hw, ← EReal.coe_mul, ← coe_sum]
  congr 1
  simp only [Finset.mul_sum, Finset.sum_mul]
  rw [Finset.sum_comm]
  refine Finset.sum_congr rfl fun k _ => Finset.sum_congr rfl fun n _ => ?_
  ring

/-- The encoder's parameters are reals. -/
structure Enc.Real (e : Enc) : Prop where
  w : ∀ d k, IsReal (e.w d k)
  b : ∀ k, IsReal (e.b k)
  a : IsReal e.a

theorem IsReal.prelu {a z : EReal} (ha : IsReal a) (hz : IsReal z) : IsReal (prelu a z) := by
  unfold Spec.prelu
  split
  · exact hz
  · exact ha.mul hz

/-- The hidden rows of real data are real. -/
theorem hid_real {e : Enc} (he : e.Real) {A : Fin 5 → Fin 5 → EReal} {X : Fin 5 → Fin 256 → EReal}
    (hA : ∀ n k, IsReal (A n k)) (hX : ∀ n d, IsReal (X n d)) (n : Fin 5) (k : Fin 64) : IsReal (hid e A X n k) :=
  he.a.prelu ((IsReal.sum fun m => (hA n m).mul (IsReal.sum fun d => (hX m d).mul (he.w d k))).add (he.b k))

/-- On real data both orders of decoding give the same row. -/
theorem dec_eq_decMix {e : Enc} (he : e.Real) {d : Dec} (hd : ∀ k j, IsReal (d.w k j)) {A : Fin 5 → Fin 5 → EReal}
    {X : Fin 5 → Fin 256 → EReal} (hA : ∀ n k, IsReal (A n k)) (hX : ∀ n d, IsReal (X n d)) :
    dec e d A X = decMix e d A X := by
  funext j
  unfold dec decMix
  rw [mix_comm _ _ _ (hA 4) (hid_real he hA hX) (fun k => hd k j)]

/-- The adjacencies and features of a view are reals. -/
structure Side.Real (s : Side) : Prop where
  A : ∀ n i k, IsReal (s.A n i k)
  X : ∀ n i d, IsReal (s.X n i d)

/-- On real data both scores agree. -/
theorem Side.score_eq (s : Side) (hs : s.Real) (e : Enc) (he : e.Real) (d : Dec) (hd : ∀ k j, IsReal (d.w k j)) :
    s.scoreMix e d = s.score e d := by
  funext n
  unfold Side.scoreMix Side.score
  rw [dec_eq_decMix he hd (hs.A n) (hs.X n)]

end Cert.Spec

end
-- ==== Proof.PreFacts.lean ====
/- What the precondition says of the arguments: their entries are reals. -/
module

public import proofs.«01_k».proof.Pre_finite_inputs
public import proofs.«01_k».proof.Proof.Finite
public import Idealize.ShloMosaic.Lib.Pointwise
public import Idealize.ShloMosaic.Lib.ReduceAll

@[expose] public section

set_option maxRecDepth 16384

noncomputable section

namespace Cert.Pre_finite_inputs.Hand

open Cert.Pre_finite_inputs Cert.Pre_finite_inputs.Facts
open Idealize.ShloMosaic Idealize.ShloMosaic.TcCoe Idealize.ShloMosaic.Tactic

/-- The precondition's shape facts. -/
instance facts : Cert.Pre_finite_inputs.Facts where
  bcast_S_S10000x5x5 := by decide
  reducesTo_S10000x5x5_S_d0_1_2 := by decide
  h_S_ := by decide
  bcast_S_S10000x5x256 := by decide
  reducesTo_S10000x5x256_S_d0_1_2 := by decide
  bcast_S_S256x64 := by decide
  reducesTo_S256x64_S_d0_1 := by decide
  bcast_S_S64 := by decide
  reducesTo_S64_S_d0 := by decide
  reducesTo_S_S_d := by decide
  bcast_S_S64x256 := by decide
  reducesTo_S64x256_S_d0_1 := by decide

/-- A scalar has one index. -/
instance : Subsingleton S_.Idx := ⟨fun a b => funext fun i => i.elim0⟩

/-- One conjunct of the precondition: all entries equal zero after subtracting the array from itself. -/
theorem real_of_all {s : Shape} (x : FVec Ideal s .f32) (z : FVec Ideal s .f32) (hz : ∀ i, z i = (0 : EReal))
    {axes : List (Fin s.rank)} (h : s.ReducesTo axes S_) (hu : 0 < S_.numel)
    (e : Host.reduce IntOp.andi (cmpf .oeq (subf x x) z) (constantI S_ 1 1#1) h hu ix0 = 1#1) (i : s.Idx) :
    Spec.IsReal (x i) := by
  have h1 : Idealize.ShloMosaic.Ideal.cmp .oeq (x i - x i) (z i) = 1#1 := Host.reduce_andi_all _ _ h hu ix0 e i
  apply Spec.IsReal.of_sub
  by_contra hn
  simp [Idealize.ShloMosaic.Ideal.cmp, hz i, hn] at h1

/-- An entry of the array of zeros. -/
theorem zero_at (s : Shape) (h : S_.BroadcastsInDim s (![] : Fin 0 → Fin s.rank)) (i : s.Idx) :
    broadcastInDim (α := EReal) s ![] h (constant (F := Ideal) S_ .f32 0x00000000#32) i = 0 := by
  pointwise

/-- Under the precondition the adjacencies, the features, the encoder's parameters and the decoder's weight are reals. -/
theorem reals (x0 : FVec Ideal S10000x5x5 .f32) (x1 : FVec Ideal S10000x5x256 .f32) (x2 : FVec Ideal S10000x5x256 .f32) (x3 : FVec Ideal S10000x5x5 .f32) (x4 : FVec Ideal S10000x5x256 .f32) (x5 : FVec Ideal S10000x5x256 .f32) (x6 : FVec Ideal S256x64 .f32) (x7 : FVec Ideal S64 .f32) (x8 : FVec Ideal S_ .f32) (x9 : FVec Ideal S64x256 .f32) (x10 : FVec Ideal S256 .f32) (x11 : FVec Ideal S_ .f32) (x12 : FVec Ideal S64x64 .f32) (x13 : FVec Ideal S_ .f32) (x14 : FVec Ideal S64x64 .f32) (x15 : FVec Ideal S_ .f32)
    (h : fn (F := Ideal) x0 x1 x2 x3 x4 x5 x6 x7 x8 x9 x10 x11 x12 x13 x14 x15 = fun _ => 1#1) :
    (∀ i, Spec.IsReal (x0 i)) ∧ (∀ i, Spec.IsReal (x1 i)) ∧ (∀ i, Spec.IsReal (x3 i)) ∧ (∀ i, Spec.IsReal (x4 i)) ∧ (∀ i, Spec.IsReal (x6 i)) ∧ (∀ i, Spec.IsReal (x7 i)) ∧ (∀ i, Spec.IsReal (x8 i)) ∧ (∀ i, Spec.IsReal (x9 i)) := by
  have h := congrFun h ix0
  unfold fn fn_part1 fn_part2 at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h4⟩ := IntOp.andi_eq_one.1 h
  obtain ⟨h, h3⟩ := IntOp.andi_eq_one.1 h
  obtain ⟨h, h1⟩ := IntOp.andi_eq_one.1 h
  exact ⟨real_of_all x0 _ (zero_at _ bcast_S_S10000x5x5) _ _ h, real_of_all x1 _ (zero_at _ bcast_S_S10000x5x256) _ _ h1, real_of_all x3 _ (zero_at _ bcast_S_S10000x5x5) _ _ h3, real_of_all x4 _ (zero_at _ bcast_S_S10000x5x256) _ _ h4, real_of_all x6 _ (zero_at _ bcast_S_S256x64) _ _ h6, real_of_all x7 _ (zero_at _ bcast_S_S64) _ _ h7, real_of_all x8 _ (fun _ => by pointwise) _ _ h8, real_of_all x9 _ (zero_at _ bcast_S_S64x256) _ _ h9⟩

end Cert.Pre_finite_inputs.Hand

end
-- ==== Proof.Nodes.lean ====
/- The hidden rows one grid point computes, read at a batch row: they are the graph convolution of that row's adjacency
   and features. -/
module

public import proofs.«01_k».proof.Proof.Outputs
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The encoder's parameters read from the blocks. -/
def encOf (b : Blocks Ideal) : Spec.Enc where
  w d k := b.wEnc (ix2 d k)
  b k := b.bEnc (ix2 0 k)
  a := b.aEnc (ix2 0 0)

/-- The decoder's parameters read from the blocks. -/
def decOf (b : Blocks Ideal) : Spec.Dec where
  w k d := b.wDec (ix2 k d)
  b d := b.bDec (ix2 0 d)
  a := b.aDec (ix2 0 0)

/-- Row `r` of a block of flattened adjacencies, as a matrix. -/
def adjRow (v : FVec Ideal S400x25 .f32) (r : Fin 400) (n m : Fin 5) : EReal := v (ix2 r ⟨5 * n.val + m.val, by omega⟩)

/-- Row `r` of a block of flattened features, one row of features per node. -/
def featRow (v : FVec Ideal S400x1280 .f32) (r : Fin 400) (m : Fin 5) (d : Fin 256) : EReal :=
  v (ix2 r ⟨256 * m.val + d.val, by omega⟩)

/-- The selecting matrix: row `q` is one on the first 64 columns of tile `q` and zero elsewhere. -/
def Picks (v : FVec Ideal S25x3200 .f32) : Prop :=
  ∀ (q : Fin 25) (l : Fin 3200), v (ix2 q l) = if 128 * q.val ≤ l.val ∧ l.val < 128 * q.val + 64 then 1 else 0

/-- A row times the selecting matrix, read in tile `q`, is entry `q` of the row. -/
theorem pick_sum {v : FVec Ideal S25x3200 .f32} (hp : Picks v) (q : Fin 25) (l : Fin 3200)
    (h1 : 128 * q.val ≤ l.val) (h2 : l.val < 128 * q.val + 64) (f : Fin 25 → EReal) :
    ∑ p : Fin 25, f p * v (ix2 p l) = f q := by
  rw [Finset.sum_eq_single q]
  · rw [hp, if_pos ⟨h1, h2⟩, mul_one]
  · intro p _ hpq
    rw [hp, if_neg (fun h => hpq (Fin.ext (by omega))), mul_zero]
  · intro h
    exact absurd (Finset.mem_univ q) h

/-- In a column tile of the spread adjacency of the first view stands one adjacency entry. -/
theorem coef1_at (b : Blocks Ideal) (hp : Picks b.pick) (r : Fin 400) (l : Fin 3200) (q : Fin 25)
    (h1 : 128 * q.val ≤ l.val) (h2 : l.val < 128 * q.val + 64) : coef1 b (ix2 r l) = b.adj1 (ix2 r q) := by
  unfold coef1
  pointwise [k0_pay12, k0_pay1]
  exact pick_sum hp q l h1 h2 (fun p => b.adj1 (ix2 r p))

/-- Node 0 of the first view through the encoder's weight. -/
theorem fts1_0_at (b : Blocks Ideal) (r : Fin 400) (k : Fin 64) :
    fts1_0 b (ix2 r k) = Spec.feat (encOf b).w (featRow b.feat1 r 0) k := by
  unfold fts1_0 Spec.feat
  pointwise [k0_pay7, encOf, featRow]

/-- Node 1 of the first view through the encoder's weight. -/
theorem fts1_1_at (b : Blocks Ideal) (r : Fin 400) (k : Fin 64) :
    fts1_1 b (ix2 r k) = Spec.feat (encOf b).w (featRow b.feat1 r 1) k := by
  unfold fts1_1 Spec.feat
  pointwise [k0_pay8, encOf, featRow]

/-- Node 2 of the first view through the encoder's weight. -/
theorem fts1_2_at (b : Blocks Ideal) (r : Fin 400) (k : Fin 64) :
    fts1_2 b (ix2 r k) = Spec.feat (encOf b).w (featRow b.feat1 r 2) k := by
  unfold fts1_2 Spec.feat
  pointwise [k0_pay9, encOf, featRow]

/-- Node 3 of the first view through the encoder's weight. -/
theorem fts1_3_at (b : Blocks Ideal) (r : Fin 400) (k : Fin 64) :
    fts1_3 b (ix2 r k) = Spec.feat (encOf b).w (featRow b.feat1 r 3) k := by
  unfold fts1_3 Spec.feat
  pointwise [k0_pay10, encOf, featRow]

/-- Node 4 of the first view through the encoder's weight. -/
theorem fts1_4_at (b : Blocks Ideal) (r : Fin 400) (k : Fin 64) :
    fts1_4 b (ix2 r k) = Spec.feat (encOf b).w (featRow b.feat1 r 4) k := by
  unfold fts1_4 Spec.feat
  pointwise [k0_pay11, encOf, featRow]

/-- Node 0 of the hidden layer of the first view. -/
theorem h1_0_at (b : Blocks Ideal) (hp : Picks b.pick) (r : Fin 400) (k : Fin 64) :
    h1_0 b (ix2 r k) = Spec.hid (encOf b) (adjRow b.adj1 r) (featRow b.feat1 r) 0 k := by
  unfold h1_0
  pointwise [k0_pay13, encBias, encSlope, k0_pay2, k0_pay3]
  exact Spec.hid_of (encOf b) (adjRow b.adj1 r) (featRow b.feat1 r) 0 k
    (coef1_at b hp r ⟨k.val, by omega⟩ ⟨0, by omega⟩ (by dsimp only; omega) (by dsimp only; omega))
    (coef1_at b hp r ⟨128 + k.val, by omega⟩ ⟨1, by omega⟩ (by dsimp only; omega) (by dsimp only; omega))
    (coef1_at b hp r ⟨256 + k.val, by omega⟩ ⟨2, by omega⟩ (by dsimp only; omega) (by dsimp only; omega))
    (coef1_at b hp r ⟨384 + k.val, by omega⟩ ⟨3, by omega⟩ (by dsimp only; omega) (by dsimp only; omega))
    (coef1_at b hp r ⟨512 + k.val, by omega⟩ ⟨4, by omega⟩ (by dsimp only; omega) (by dsimp only; omega))
    (fts1_0_at b r k) (fts1_1_at b r k) (fts1_2_at b r k) (fts1_3_at b r k) (fts1_4_at b r k) rfl rfl

/-- Node 1 of the hidden layer of the first view. -/
theorem h1_1_at (b : Blocks Ideal) (hp : Picks b.pick) (r : Fin 400) (k : Fin 64) :
    h1_1 b (ix2 r k) = Spec.hid (encOf b) (adjRow b.adj1 r) (featRow b.feat1 r) 1 k := by
  unfold h1_1
  pointwise [k0_pay14, encBias, encSlope, k0_pay2, k0_pay3]
  exact Spec.hid_of (encOf b) (adjRow b.adj1 r) (featRow b.feat1 r) 1 k
    (coef1_at b hp r ⟨640 + k.val, by omega⟩ ⟨5, by omega⟩ (by dsimp only; omega) (by dsimp only; omega))
    (coef1_at b hp r ⟨768 + k.val, by omega⟩ ⟨6, by omega⟩ (by dsimp only; omega) (by dsimp only; omega))
    (coef1_at b hp r ⟨896 + k.val, by omega⟩ ⟨7, by omega⟩ (by dsimp only; omega) (by dsimp only; omega))
    (coef1_at b hp r ⟨1024 + k.val, by omega⟩ ⟨8, by omega⟩ (by dsimp only; omega) (by dsimp only; omega))
    (coef1_at b hp r ⟨1152 + k.val, by omega⟩ ⟨9, by omega⟩ (by dsimp only; omega) (by dsimp only; omega))
    (fts1_0_at b r k) (fts1_1_at b r k) (fts1_2_at b r k) (fts1_3_at b r k) (fts1_4_at b r k) rfl rfl

/-- Node 2 of the hidden layer of the first view. -/
theorem h1_2_at (b : Blocks Ideal) (hp : Picks b.pick) (r : Fin 400) (k : Fin 64) :
    h1_2 b (ix2 r k) = Spec.hid (encOf b) (adjRow b.adj1 r) (featRow b.feat1 r) 2 k := by
  unfold h1_2
  pointwise [k0_pay17, k0_pay15, k0_pay16, encBias, encSlope, k0_pay2, k0_pay3]
  exact Spec.hid_of (encOf b) (adjRow b.adj1 r) (featRow b.feat1 r) 2 k
    (coef1_at b hp r ⟨1280 + k.val, by omega⟩ ⟨10, by omega⟩ (by dsimp only; omega) (by dsimp only; omega))
    (coef1_at b hp r ⟨1408 + k.val, by omega⟩ ⟨11, by omega⟩ (by dsimp only; omega) (by dsimp only; omega))
    (coef1_at b hp r ⟨1536 + k.val, by omega⟩ ⟨12, by omega⟩ (by dsimp only; omega) (by dsimp only; omega))
    (coef1_at b hp r ⟨1664 + k.val, by omega⟩ ⟨13, by omega⟩ (by dsimp only; omega) (by dsimp only; omega))
    (coef1_at b hp r ⟨1792 + k.val, by omega⟩ ⟨14, by omega⟩ (by dsimp only; omega) (by dsimp only; omega))
    (fts1_0_at b r k) (fts1_1_at b r k) (fts1_2_at b r k) (fts1_3_at b r k) (fts1_4_at b r k) rfl rfl

/-- Node 3 of the hidden layer of the first view. -/
theorem h1_3_at (b : Blocks Ideal) (hp : Picks b.pick) (r : Fin 400) (k : Fin 64) :
    h1_3 b (ix2 r k) = Spec.hid (encOf b) (adjRow b.adj1 r) (featRow b.feat1 r) 3 k := by
  unfold h1_3
  pointwise [k0_pay18, encBias, encSlope, k0_pay2, k0_pay3]
  exact Spec.hid_of (encOf b) (adjRow b.adj1 r) (featRow b.feat1 r) 3 k
    (coef1_at b hp r ⟨1920 + k.val, by omega⟩ ⟨15, by omega⟩ (by dsimp only; omega) (by dsimp only; omega))
    (coef1_at b hp r ⟨2048 + k.val, by omega⟩ ⟨16, by omega⟩ (by dsimp only; omega) (by dsimp only; omega))
    (coef1_at b hp r ⟨2176 + k.val, by omega⟩ ⟨17, by omega⟩ (by dsimp only; omega) (by dsimp only; omega))
    (coef1_at b hp r ⟨2304 + k.val, by omega⟩ ⟨18, by omega⟩ (by dsimp only; omega) (by dsimp only; omega))
    (coef1_at b hp r ⟨2432 + k.val, by omega⟩ ⟨19, by omega⟩ (by dsimp only; omega) (by dsimp only; omega))
    (fts1_0_at b r k) (fts1_1_at b r k) (fts1_2_at b r k) (fts1_3_at b r k) (fts1_4_at b r k) rfl rfl

/-- Node 4 of the hidden layer of the first view. -/
theorem h1_4_at (b : Blocks Ideal) (hp : Picks b.pick) (r : Fin 400) (k : Fin 64) :
    h1_4 b (ix2 r k) = Spec.hid (encOf b) (adjRow b.adj1 r) (featRow b.feat1 r) 4 k := by
  unfold h1_4
  pointwise [k0_pay19, encBias, encSlope, k0_pay2, k0_pay3]
  exact Spec.hid_of (encOf b) (adjRow b.adj1 r) (featRow b.feat1 r) 4 k
    (coef1_at b hp r ⟨2560 + k.val, by omega⟩ ⟨20, by omega⟩ (by dsimp only; omega) (by dsimp only; omega))
    (coef1_at b hp r ⟨2688 + k.val, by omega⟩ ⟨21, by omega⟩ (by dsimp only; omega) (by dsimp only; omega))
    (coef1_at b hp r ⟨2816 + k.val, by omega⟩ ⟨22, by omega⟩ (by dsimp only; omega) (by dsimp only; omega))
    (coef1_at b hp r ⟨2944 + k.val, by omega⟩ ⟨23, by omega⟩ (by dsimp only; omega) (by dsimp only; omega))
    (coef1_at b hp r ⟨3072 + k.val, by omega⟩ ⟨24, by omega⟩ (by dsimp only; omega) (by dsimp only; omega))
    (fts1_0_at b r k) (fts1_1_at b r k) (fts1_2_at b r k) (fts1_3_at b r k) (fts1_4_at b r k) rfl rfl

/-- In a column tile of the spread adjacency of the second view stands one adjacency entry. -/
theorem coef2_at (b : Blocks Ideal) (hp : Picks b.pick) (r : Fin 400) (l : Fin 3200) (q : Fin 25)
    (h1 : 128 * q.val ≤ l.val) (h2 : l.val < 128 * q.val + 64) : coef2 b (ix2 r l) = b.adj2 (ix2 r q) := by
  unfold coef2
  pointwise [k0_pay33, k0_pay1]
  exact pick_sum hp q l h1 h2 (fun p => b.adj2 (ix2 r p))

/-- Node 0 of the second view through the encoder's weight. -/
theorem fts2_0_at (b : Blocks Ideal) (r : Fin 400) (k : Fin 64) :
    fts2_0 b (ix2 r k) = Spec.feat (encOf b).w (featRow b.feat2 r 0) k := by
  unfold fts2_0 Spec.feat
  pointwise [k0_pay28, encOf, featRow]

/-- Node 1 of the second view through the encoder's weight. -/
theorem fts2_1_at (b : Blocks Ideal) (r : Fin 400) (k : Fin 64) :
    fts2_1 b (ix2 r k) = Spec.feat (encOf b).w (featRow b.feat2 r 1) k := by
  unfold fts2_1 Spec.feat
  pointwise [k0_pay29, encOf, featRow]

/-- Node 2 of the second view through the encoder's weight. -/
theorem fts2_2_at (b : Blocks Ideal) (r : Fin 400) (k : Fin 64) :
    fts2_2 b (ix2 r k) = Spec.feat (encOf b).w (featRow b.feat2 r 2) k := by
  unfold fts2_2 Spec.feat
  pointwise [k0_pay30, encOf, featRow]

/-- Node 3 of the second view through the encoder's weight. -/
theorem fts2_3_at (b : Blocks Ideal) (r : Fin 400) (k : Fin 64) :
    fts2_3 b (ix2 r k) = Spec.feat (encOf b).w (featRow b.feat2 r 3) k := by
  unfold fts2_3 Spec.feat
  pointwise [k0_pay31, encOf, featRow]

/-- Node 4 of the second view through the encoder's weight. -/
theorem fts2_4_at (b : Blocks Ideal) (r : Fin 400) (k : Fin 64) :
    fts2_4 b (ix2 r k) = Spec.feat (encOf b).w (featRow b.feat2 r 4) k := by
  unfold fts2_4 Spec.feat
  pointwise [k0_pay32, encOf, featRow]

/-- Node 0 of the hidden layer of the second view. -/
theorem h2_0_at (b : Blocks Ideal) (hp : Picks b.pick) (r : Fin 400) (k : Fin 64) :
    h2_0 b (ix2 r k) = Spec.hid (encOf b) (adjRow b.adj2 r) (featRow b.feat2 r) 0 k := by
  unfold h2_0
  pointwise [k0_pay34, encBias, encSlope, k0_pay2, k0_pay3]
  exact Spec.hid_of (encOf b) (adjRow b.adj2 r) (featRow b.feat2 r) 0 k
    (coef2_at b hp r ⟨k.val, by omega⟩ ⟨0, by omega⟩ (by dsimp only; omega) (by dsimp only; omega))
    (coef2_at b hp r ⟨128 + k.val, by omega⟩ ⟨1, by omega⟩ (by dsimp only; omega) (by dsimp only; omega))
    (coef2_at b hp r ⟨256 + k.val, by omega⟩ ⟨2, by omega⟩ (by dsimp only; omega) (by dsimp only; omega))
    (coef2_at b hp r ⟨384 + k.val, by omega⟩ ⟨3, by omega⟩ (by dsimp only; omega) (by dsimp only; omega))
    (coef2_at b hp r ⟨512 + k.val, by omega⟩ ⟨4, by omega⟩ (by dsimp only; omega) (by dsimp only; omega))
    (fts2_0_at b r k) (fts2_1_at b r k) (fts2_2_at b r k) (fts2_3_at b r k) (fts2_4_at b r k) rfl rfl

/-- Node 1 of the hidden layer of the second view. -/
theorem h2_1_at (b : Blocks Ideal) (hp : Picks b.pick) (r : Fin 400) (k : Fin 64) :
    h2_1 b (ix2 r k) = Spec.hid (encOf b) (adjRow b.adj2 r) (featRow b.feat2 r) 1 k := by
  unfold h2_1
  pointwise [k0_pay36, k0_pay35, encBias, encSlope, k0_pay2, k0_pay3]
  exact Spec.hid_of (encOf b) (adjRow b.adj2 r) (featRow b.feat2 r) 1 k
    (coef2_at b hp r ⟨640 + k.val, by omega⟩ ⟨5, by omega⟩ (by dsimp only; omega) (by dsimp only; omega))
    (coef2_at b hp r ⟨768 + k.val, by omega⟩ ⟨6, by omega⟩ (by dsimp only; omega) (by dsimp only; omega))
    (coef2_at b hp r ⟨896 + k.val, by omega⟩ ⟨7, by omega⟩ (by dsimp only; omega) (by dsimp only; omega))
    (coef2_at b hp r ⟨1024 + k.val, by omega⟩ ⟨8, by omega⟩ (by dsimp only; omega) (by dsimp only; omega))
    (coef2_at b hp r ⟨1152 + k.val, by omega⟩ ⟨9, by omega⟩ (by dsimp only; omega) (by dsimp only; omega))
    (fts2_0_at b r k) (fts2_1_at b r k) (fts2_2_at b r k) (fts2_3_at b r k) (fts2_4_at b r k) rfl rfl

/-- Node 2 of the hidden layer of the second view. -/
theorem h2_2_at (b : Blocks Ideal) (hp : Picks b.pick) (r : Fin 400) (k : Fin 64) :
    h2_2 b (ix2 r k) = Spec.hid (encOf b) (adjRow b.adj2 r) (featRow b.feat2 r) 2 k := by
  unfold h2_2
  pointwise [k0_pay37, encBias, encSlope, k0_pay2, k0_pay3]
  exact Spec.hid_of (encOf b) (adjRow b.adj2 r) (featRow b.feat2 r) 2 k
    (coef2_at b hp r ⟨1280 + k.val, by omega⟩ ⟨10, by omega⟩ (by dsimp only; omega) (by dsimp only; omega))
    (coef2_at b hp r ⟨1408 + k.val, by omega⟩ ⟨11, by omega⟩ (by dsimp only; omega) (by dsimp only; omega))
    (coef2_at b hp r ⟨1536 + k.val, by omega⟩ ⟨12, by omega⟩ (by dsimp only; omega) (by dsimp only; omega))
    (coef2_at b hp r ⟨1664 + k.val, by omega⟩ ⟨13, by omega⟩ (by dsimp only; omega) (by dsimp only; omega))
    (coef2_at b hp r ⟨1792 + k.val, by omega⟩ ⟨14, by omega⟩ (by dsimp only; omega) (by dsimp only; omega))
    (fts2_0_at b r k) (fts2_1_at b r k) (fts2_2_at b r k) (fts2_3_at b r k) (fts2_4_at b r k) rfl rfl

/-- Node 3 of the hidden layer of the second view. -/
theorem h2_3_at (b : Blocks Ideal) (hp : Picks b.pick) (r : Fin 400) (k : Fin 64) :
    h2_3 b (ix2 r k) = Spec.hid (encOf b) (adjRow b.adj2 r) (featRow b.feat2 r) 3 k := by
  unfold h2_3
  pointwise [k0_pay38, encBias, encSlope, k0_pay2, k0_pay3]
  exact Spec.hid_of (encOf b) (adjRow b.adj2 r) (featRow b.feat2 r) 3 k
    (coef2_at b hp r ⟨1920 + k.val, by omega⟩ ⟨15, by omega⟩ (by dsimp only; omega) (by dsimp only; omega))
    (coef2_at b hp r ⟨2048 + k.val, by omega⟩ ⟨16, by omega⟩ (by dsimp only; omega) (by dsimp only; omega))
    (coef2_at b hp r ⟨2176 + k.val, by omega⟩ ⟨17, by omega⟩ (by dsimp only; omega) (by dsimp only; omega))
    (coef2_at b hp r ⟨2304 + k.val, by omega⟩ ⟨18, by omega⟩ (by dsimp only; omega) (by dsimp only; omega))
    (coef2_at b hp r ⟨2432 + k.val, by omega⟩ ⟨19, by omega⟩ (by dsimp only; omega) (by dsimp only; omega))
    (fts2_0_at b r k) (fts2_1_at b r k) (fts2_2_at b r k) (fts2_3_at b r k) (fts2_4_at b r k) rfl rfl

/-- Node 4 of the hidden layer of the second view. -/
theorem h2_4_at (b : Blocks Ideal) (hp : Picks b.pick) (r : Fin 400) (k : Fin 64) :
    h2_4 b (ix2 r k) = Spec.hid (encOf b) (adjRow b.adj2 r) (featRow b.feat2 r) 4 k := by
  unfold h2_4
  pointwise [k0_pay41, part2, k0_pay39, term2, k0_pay40, encBias, encSlope, k0_pay2, k0_pay3]
  exact Spec.hid_of (encOf b) (adjRow b.adj2 r) (featRow b.feat2 r) 4 k
    (coef2_at b hp r ⟨2560 + k.val, by omega⟩ ⟨20, by omega⟩ (by dsimp only; omega) (by dsimp only; omega))
    (coef2_at b hp r ⟨2688 + k.val, by omega⟩ ⟨21, by omega⟩ (by dsimp only; omega) (by dsimp only; omega))
    (coef2_at b hp r ⟨2816 + k.val, by omega⟩ ⟨22, by omega⟩ (by dsimp only; omega) (by dsimp only; omega))
    (coef2_at b hp r ⟨2944 + k.val, by omega⟩ ⟨23, by omega⟩ (by dsimp only; omega) (by dsimp only; omega))
    (coef2_at b hp r ⟨3072 + k.val, by omega⟩ ⟨24, by omega⟩ (by dsimp only; omega) (by dsimp only; omega))
    (fts2_0_at b r k) (fts2_1_at b r k) (fts2_2_at b r k) (fts2_3_at b r k) (fts2_4_at b r k) rfl rfl

end Cert.KernelIdeal.Hand

end
-- ==== Proof.Rows.lean ====
/- What one grid point stores, read at a batch row. -/
module

public import proofs.«01_k».proof.Proof.Nodes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Two words that compare equal are equal. -/
theorem eq_of_cmpi {a b : BitVec 32} (h : IntOp.cmpi .eq a b = 1) : a = b := by
  by_contra hn
  simp [IntOp.cmpi, beq_false_of_ne hn] at h

/-- The target row of the second view in the form its readers hold it. -/
theorem row4_form (b : Blocks Ideal) :
    k0_pay41 (encBias b) (encSlope b) (fts2_4 b) (coef2 b) (part2 b) (term2 b) = h2_4 b := rfl

/-- The same, the bias and the slope read from their blocks. -/
theorem row4_form' (b : Blocks Ideal) :
    k0_pay41 b.bEnc (b.aEnc (ix2 0 0)) (fts2_4 b) (coef2 b) (part2 b) (term2 b) = h2_4 b := by
  have hb : encBias b = b.bEnc := by
    unfold encBias
    ext i
    pointwise [k0_pay2]
  have ha : encSlope b = b.aEnc (ix2 0 0) := by
    unfold encSlope
    pointwise [k0_pay3]
  rw [← row4_form, hb, ha]

/-- The hidden rows of the first view at batch row `r` of a block. -/
def hidRow1 (b : Blocks Ideal) (r : Fin 400) : Fin 5 → Fin 64 → EReal := Spec.hid (encOf b) (adjRow b.adj1 r) (featRow b.feat1 r)

/-- The context row of the first view at batch row `r` of a block. -/
def ctxRow1 (b : Blocks Ideal) (r : Fin 400) : Fin 64 → EReal := Spec.ctx (encOf b) (adjRow b.adj1 r) (featRow b.feat1 r)

/-- The context row of the last batch element of the first view. -/
def ctxTail1 (b : Blocks Ideal) : Fin 64 → EReal :=
  Spec.ctx (encOf b) (fun n m => b.adjT1 (ix2 n m)) (fun m d => b.featT1 (ix2 m d))

/-- The discriminator of the first view. -/
def disc1 (b : Blocks Ideal) : (Fin 64 → EReal) → (Fin 64 → EReal) → EReal :=
  Spec.logit (fun i j => b.wb1 (ix2 i j)) (b.bb1 (ix2 0 0))

/-- The positive logit of a batch row: the discriminator of its target row and its context row. -/
theorem pos1_at (b : Blocks Ideal) (hp : Picks b.pick) (r : Fin 400) (z : Fin 1) :
    pos1 b (ix2 r z) = disc1 b (hidRow1 b r 4) (ctxRow1 b r) := by
  unfold pos1
  pointwise [k0_pay22, k0_pay21, k0_pay20, k0_pay6]
  simp only [h1_0_at b hp, h1_1_at b hp, h1_2_at b hp, h1_3_at b hp, h1_4_at b hp, Spec.mul_quarter]
  rfl

/-- The row carried on: the context row of the block's last batch row. -/
theorem carry1_at (b : Blocks Ideal) (hp : Picks b.pick) (k : Fin 64) (z : Fin 1) :
    carry1 b (ix2 z k) = ctxRow1 b 399 k := by
  unfold carry1
  pointwise [k0_pay25, k0_pay24, k0_pay20]
  simp only [h1_0_at b hp, h1_1_at b hp, h1_2_at b hp, h1_3_at b hp, h1_4_at b hp, Spec.mul_quarter]
  rfl

/-- The negative logit of a batch row that is not the block's first: the context row is its predecessor's. -/
theorem neg1_at_succ (b : Blocks Ideal) (hp : Picks b.pick) (a : BitVec 32) (s : Vec Ideal S1x64 .f32) (r : Fin 400)
    (hr : 0 < r.val) (z : Fin 1) :
    neg1 b a s (ix2 r z) = disc1 b (hidRow1 b r 4) (ctxRow1 b ⟨r.val - 1, by omega⟩) := by
  unfold neg1
  pointwise [k0_pay23, k0_pay21, k0_pay20, k0_pay6, encBias, encSlope, k0_pay2, k0_pay3]
  have h1 : ¬ r.val < 1 := by omega
  simp only [h1_0_at b hp, h1_1_at b hp, h1_2_at b hp, h1_3_at b hp, h1_4_at b hp, Spec.mul_quarter, dif_neg h1]
  rfl

/-- The negative logit of the first row of a block that is not the first: the context row is the carried one. -/
theorem neg1_at_carried (b : Blocks Ideal) (hp : Picks b.pick) (a : BitVec 32) (ha : a ≠ 0#32) (s : Vec Ideal S1x64 .f32)
    (z : Fin 1) : neg1 b a s (ix2 0 z) = disc1 b (hidRow1 b 0 4) (fun k => s (ix2 0 k)) := by
  have hc : (IntOp.cmpi .eq a 0#32 = 1) = False := eq_false (fun h => ha (eq_of_cmpi h))
  unfold neg1
  pointwise [k0_pay23, k0_pay21, k0_pay20, k0_pay6, encBias, encSlope, k0_pay2, k0_pay3]
  simp only [h1_4_at b hp, Scalar.select, Scalar.cmpi, hc, if_false]
  rfl

/-- The negative logit of the very first row: the context row is the last batch element's. -/
theorem neg1_at_zero (b : Blocks Ideal) (hp : Picks b.pick) (s : Vec Ideal S1x64 .f32) (z : Fin 1) :
    neg1 b 0#32 s (ix2 0 z) = disc1 b (hidRow1 b 0 4) (ctxTail1 b) := by
  unfold neg1
  pointwise [k0_pay23, k0_pay21, k0_pay20, k0_pay6, encBias, encSlope, k0_pay2, k0_pay3]
  simp only [h1_4_at b hp, Scalar.select, Scalar.cmpi, Fin.sum_univ_four, Spec.div_four]
  rfl

/-- The distance of a batch row. -/
theorem score1_at (b : Blocks Ideal) (hp : Picks b.pick) (r : Fin 400) (z : Fin 1) :
    score1 b (ix2 r z) =
      Spec.dist (Spec.decMix (encOf b) (decOf b) (adjRow b.adj1 r) (featRow b.feat1 r)) (fun d => b.raw2 (ix2 r d)) := by
  have hd : ∀ j : Fin 256, _ := fun j =>
    Spec.decMix_of (encOf b) (decOf b) (adjRow b.adj1 r) (featRow b.feat1 r) j
      (fun x => coef1_at b hp r ⟨2560 + x.val, by omega⟩ ⟨20, by omega⟩ (by dsimp only; omega) (by dsimp only; omega))
      (fun x => coef1_at b hp r ⟨2688 + x.val, by omega⟩ ⟨21, by omega⟩ (by dsimp only; omega) (by dsimp only; omega))
      (fun x => coef1_at b hp r ⟨2816 + x.val, by omega⟩ ⟨22, by omega⟩ (by dsimp only; omega) (by dsimp only; omega))
      (fun x => coef1_at b hp r ⟨2944 + x.val, by omega⟩ ⟨23, by omega⟩ (by dsimp only; omega) (by dsimp only; omega))
      (fun x => coef1_at b hp r ⟨3072 + x.val, by omega⟩ ⟨24, by omega⟩ (by dsimp only; omega) (by dsimp only; omega))
      (fun x => h1_0_at b hp r x) (fun x => h1_1_at b hp r x) (fun x => h1_2_at b hp r x) (fun x => h1_3_at b hp r x) (fun x => h1_4_at b hp r x) (fun k => (rfl : b.wDec (ix2 k j) = _)) (rfl : b.bDec (ix2 0 j) = _) (rfl : b.aDec (ix2 0 0) = _)
  unfold score1
  pointwise [k0_pay26, k0_pay4, k0_pay5]
  simp only [hd]
  rfl

/-- The hidden rows of the second view at batch row `r` of a block. -/
def hidRow2 (b : Blocks Ideal) (r : Fin 400) : Fin 5 → Fin 64 → EReal := Spec.hid (encOf b) (adjRow b.adj2 r) (featRow b.feat2 r)

/-- The context row of the second view at batch row `r` of a block. -/
def ctxRow2 (b : Blocks Ideal) (r : Fin 400) : Fin 64 → EReal := Spec.ctx (encOf b) (adjRow b.adj2 r) (featRow b.feat2 r)

/-- The context row of the last batch element of the second view. -/
def ctxTail2 (b : Blocks Ideal) : Fin 64 → EReal :=
  Spec.ctx (encOf b) (fun n m => b.adjT2 (ix2 n m)) (fun m d => b.featT2 (ix2 m d))

/-- The discriminator of the second view. -/
def disc2 (b : Blocks Ideal) : (Fin 64 → EReal) → (Fin 64 → EReal) → EReal :=
  Spec.logit (fun i j => b.wb2 (ix2 i j)) (b.bb2 (ix2 0 0))

/-- The positive logit of a batch row: the discriminator of its target row and its context row. -/
theorem pos2_at (b : Blocks Ideal) (hp : Picks b.pick) (r : Fin 400) (z : Fin 1) :
    pos2 b (ix2 r z) = disc2 b (hidRow2 b r 4) (ctxRow2 b r) := by
  unfold pos2
  pointwise [k0_pay44, k0_pay43, k0_pay42, k0_pay27]
  simp only [row4_form, row4_form', h2_0_at b hp, h2_1_at b hp, h2_2_at b hp, h2_3_at b hp, h2_4_at b hp, Spec.mul_quarter]
  rfl

/-- The row carried on: the context row of the block's last batch row. -/
theorem carry2_at (b : Blocks Ideal) (hp : Picks b.pick) (k : Fin 64) (z : Fin 1) :
    carry2 b (ix2 z k) = ctxRow2 b 399 k := by
  unfold carry2
  pointwise [k0_pay48, k0_pay42]
  simp only [h2_0_at b hp, h2_1_at b hp, h2_2_at b hp, h2_3_at b hp, h2_4_at b hp, Spec.mul_quarter]
  rfl

/-- The negative logit of a batch row that is not the block's first: the context row is its predecessor's. -/
theorem neg2_at_succ (b : Blocks Ideal) (hp : Picks b.pick) (a : BitVec 32) (s : Vec Ideal S1x64 .f32) (r : Fin 400)
    (hr : 0 < r.val) (z : Fin 1) :
    neg2 b a s (ix2 r z) = disc2 b (hidRow2 b r 4) (ctxRow2 b ⟨r.val - 1, by omega⟩) := by
  unfold neg2
  pointwise [k0_pay47, k0_pay46, k0_pay45, k0_pay43, k0_pay42, k0_pay27, encBias, encSlope, k0_pay2, k0_pay3]
  have h1 : ¬ r.val < 1 := by omega
  simp only [row4_form, row4_form', h2_0_at b hp, h2_1_at b hp, h2_2_at b hp, h2_3_at b hp, h2_4_at b hp, Spec.mul_quarter, dif_neg h1]
  rfl

/-- The negative logit of the first row of a block that is not the first: the context row is the carried one. -/
theorem neg2_at_carried (b : Blocks Ideal) (hp : Picks b.pick) (a : BitVec 32) (ha : a ≠ 0#32) (s : Vec Ideal S1x64 .f32)
    (z : Fin 1) : neg2 b a s (ix2 0 z) = disc2 b (hidRow2 b 0 4) (fun k => s (ix2 0 k)) := by
  have hc : (IntOp.cmpi .eq a 0#32 = 1) = False := eq_false (fun h => ha (eq_of_cmpi h))
  unfold neg2
  pointwise [k0_pay47, k0_pay46, k0_pay45, k0_pay43, k0_pay42, k0_pay27, encBias, encSlope, k0_pay2, k0_pay3]
  simp only [row4_form, row4_form', h2_4_at b hp, Scalar.select, Scalar.cmpi, hc, if_false]
  rfl

/-- The negative logit of the very first row: the context row is the last batch element's. -/
theorem neg2_at_zero (b : Blocks Ideal) (hp : Picks b.pick) (s : Vec Ideal S1x64 .f32) (z : Fin 1) :
    neg2 b 0#32 s (ix2 0 z) = disc2 b (hidRow2 b 0 4) (ctxTail2 b) := by
  unfold neg2
  pointwise [k0_pay47, k0_pay46, k0_pay45, k0_pay43, k0_pay42, k0_pay27, encBias, encSlope, k0_pay2, k0_pay3]
  simp only [row4_form, row4_form', h2_4_at b hp, Scalar.select, Scalar.cmpi, Fin.sum_univ_four, Spec.div_four]
  rfl

/-- The distance of a batch row. -/
theorem score2_at (b : Blocks Ideal) (hp : Picks b.pick) (r : Fin 400) (z : Fin 1) :
    score2 b (ix2 r z) =
      Spec.dist (Spec.decMix (encOf b) (decOf b) (adjRow b.adj2 r) (featRow b.feat2 r)) (fun d => b.raw1 (ix2 r d)) := by
  have hd : ∀ j : Fin 256, _ := fun j =>
    Spec.decMix_of (encOf b) (decOf b) (adjRow b.adj2 r) (featRow b.feat2 r) j
      (fun x => coef2_at b hp r ⟨2560 + x.val, by omega⟩ ⟨20, by omega⟩ (by dsimp only; omega) (by dsimp only; omega))
      (fun x => coef2_at b hp r ⟨2688 + x.val, by omega⟩ ⟨21, by omega⟩ (by dsimp only; omega) (by dsimp only; omega))
      (fun x => coef2_at b hp r ⟨2816 + x.val, by omega⟩ ⟨22, by omega⟩ (by dsimp only; omega) (by dsimp only; omega))
      (fun x => coef2_at b hp r ⟨2944 + x.val, by omega⟩ ⟨23, by omega⟩ (by dsimp only; omega) (by dsimp only; omega))
      (fun x => coef2_at b hp r ⟨3072 + x.val, by omega⟩ ⟨24, by omega⟩ (by dsimp only; omega) (by dsimp only; omega))
      (fun x => h2_0_at b hp r x) (fun x => h2_1_at b hp r x) (fun x => h2_2_at b hp r x) (fun x => h2_3_at b hp r x) (fun x => h2_4_at b hp r x) (fun k => (rfl : b.wDec (ix2 k j) = _)) (rfl : b.bDec (ix2 0 j) = _) (rfl : b.aDec (ix2 0 0) = _)
  unfold score2
  pointwise [k0_pay49, k0_pay4, k0_pay5]
  simp only [hd]
  rfl

end Cert.KernelIdeal.Hand

end
-- ==== Proof.Contents.lean ====
/- What the blocks of a grid point hold, in terms of the arguments: at point `t`, batch row `r` of a block is batch element
   `400 t + r`; the blocks of the parameters are the parameters. -/
module

public import proofs.«01_k».proof.Proof.Point
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem Idealize.ShloMosaic.Tactic
open Idealize.ShloMosaic.Pipeline (Dat)

namespace Cert.KernelIdeal.Hand

open Cert.KernelIdeal Cert.KernelIdeal.Gen

variable (m : (ℓ : Loc nD τ sig) → Buf (Elt Ideal) ℓ)

/-- The windows of the batch move with the grid point. -/
theorem idx_in : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] :=
  (by decide +kernel : ∀ t : Fin grid0.N, _)

/-- The windows of the whole arrays stay. -/
theorem idx_a : ∀ t : Fin cfg0.N, win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

/-- The windows of the whole arrays stay. -/
theorem idx_b : ∀ t : Fin cfg0.N, win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] :=
  (by decide +kernel : ∀ t : Fin grid0.N, _)

/-- The windows of the results move with the grid point. -/
theorem idx_out : ∀ t : Fin cfg0.N, win0_21.index t = ![t.val, 0] ∧ win0_22.index t = ![t.val, 0] ∧ win0_23.index t = ![t.val, 0] ∧ win0_24.index t = ![t.val, 0] ∧ win0_25.index t = ![t.val, 0] ∧ win0_26.index t = ![t.val, 0] :=
  (by decide +kernel : ∀ t : Fin grid0.N, _)

/-- There are 25 grid points. -/
theorem lt25 (t : Fin cfg0.N) : t.val < 25 := Nat.lt_of_lt_of_eq t.isLt N_0

/-- The batch element a point's row is. -/
def elt (t : Fin cfg0.N) (r : Fin 400) : Fin 10000 := ⟨400 * t.val + r.val, by have := lt25 t; omega⟩

/-- The adjacency of the first view. -/
theorem adj1_at (c : Dev nD) (t : Fin cfg0.N) (r : Fin 400) (n k : Fin 5) :
    adjRow (blocks m c t).adj1 r n k = m ((c : Thread nD τ).loc main_arg0) (ix3 (elt t r) n k) := by
  have := lt25 t
  dsimp only [adjRow, blocks]
  blk_simp [iblk, idx_in t, idx_a t, idx_b t]
  unfold V V0
  simp only [List.flatten_cons, List.flatten_nil, List.append_nil]
  entry_read
  pointwise
  blk_ext [idx_in t, idx_a t, idx_b t, elt]

/-- The features of the first view. -/
theorem feat1_at (c : Dev nD) (t : Fin cfg0.N) (r : Fin 400) (n : Fin 5) (k : Fin 256) :
    featRow (blocks m c t).feat1 r n k = m ((c : Thread nD τ).loc main_arg1) (ix3 (elt t r) n k) := by
  have := lt25 t
  dsimp only [featRow, blocks]
  blk_simp [iblk, idx_in t, idx_a t, idx_b t]
  unfold V V0
  simp only [List.flatten_cons, List.flatten_nil, List.append_nil]
  entry_read
  pointwise
  blk_ext [idx_in t, idx_a t, idx_b t, elt]

/-- The rows the first view is compared with. -/
theorem raw2_at (c : Dev nD) (t : Fin cfg0.N) (r : Fin 400) (k : Fin 256) :
    (blocks m c t).raw2 (ix2 r k) = m ((c : Thread nD τ).loc main_arg5) (ix3 (elt t r) 4 k) := by
  have := lt25 t
  dsimp only [blocks]
  blk_simp [iblk, idx_in t, idx_a t, idx_b t]
  unfold V V0
  simp only [List.flatten_cons, List.flatten_nil, List.append_nil]
  entry_read
  pointwise
  blk_ext [idx_in t, idx_a t, idx_b t, elt]

/-- The last batch element's adjacency, first view. -/
theorem adjT1_at (c : Dev nD) (t : Fin cfg0.N) (n k : Fin 5) :
    (blocks m c t).adjT1 (ix2 n k) = m ((c : Thread nD τ).loc main_arg0) (ix3 9999 n k) := by
  have := lt25 t
  dsimp only [blocks]
  blk_simp [iblk, idx_in t, idx_a t, idx_b t]
  unfold V V0
  simp only [List.flatten_cons, List.flatten_nil, List.append_nil]
  entry_read
  pointwise
  blk_ext [idx_in t, idx_a t, idx_b t, elt]

/-- The last batch element's features, first view. -/
theorem featT1_at (c : Dev nD) (t : Fin cfg0.N) (n : Fin 5) (k : Fin 256) :
    (blocks m c t).featT1 (ix2 n k) = m ((c : Thread nD τ).loc main_arg1) (ix3 9999 n k) := by
  have := lt25 t
  dsimp only [blocks]
  blk_simp [iblk, idx_in t, idx_a t, idx_b t]
  unfold V V0
  simp only [List.flatten_cons, List.flatten_nil, List.append_nil]
  entry_read
  pointwise
  blk_ext [idx_in t, idx_a t, idx_b t, elt]

/-- The discriminator's matrix, first view. -/
theorem wb1_at (c : Dev nD) (t : Fin cfg0.N) (i k : Fin 64) :
    (blocks m c t).wb1 (ix2 i k) = m ((c : Thread nD τ).loc main_arg12) (ix2 i k) := by
  have := lt25 t
  dsimp only [blocks]
  blk_simp [iblk, idx_in t, idx_a t, idx_b t]
  unfold V V0
  simp only [List.flatten_cons, List.flatten_nil, List.append_nil]
  entry_read
  pointwise
  blk_ext [idx_in t, idx_a t, idx_b t, elt]

/-- The discriminator's bias, first view. -/
theorem bb1_at (c : Dev nD) (t : Fin cfg0.N) :
    (blocks m c t).bb1 (ix2 0 0) = m ((c : Thread nD τ).loc main_arg13) ix0 := by
  have := lt25 t
  dsimp only [blocks]
  blk_simp [iblk, idx_in t, idx_a t, idx_b t]
  unfold V V0
  simp only [List.flatten_cons, List.flatten_nil, List.append_nil]
  entry_read
  pointwise

/-- The adjacency of the second view. -/
theorem adj2_at (c : Dev nD) (t : Fin cfg0.N) (r : Fin 400) (n k : Fin 5) :
    adjRow (blocks m c t).adj2 r n k = m ((c : Thread nD τ).loc main_arg3) (ix3 (elt t r) n k) := by
  have := lt25 t
  dsimp only [adjRow, blocks]
  blk_simp [iblk, idx_in t, idx_a t, idx_b t]
  unfold V V0
  simp only [List.flatten_cons, List.flatten_nil, List.append_nil]
  entry_read
  pointwise
  blk_ext [idx_in t, idx_a t, idx_b t, elt]

/-- The features of the second view. -/
theorem feat2_at (c : Dev nD) (t : Fin cfg0.N) (r : Fin 400) (n : Fin 5) (k : Fin 256) :
    featRow (blocks m c t).feat2 r n k = m ((c : Thread nD τ).loc main_arg4) (ix3 (elt t r) n k) := by
  have := lt25 t
  dsimp only [featRow, blocks]
  blk_simp [iblk, idx_in t, idx_a t, idx_b t]
  unfold V V0
  simp only [List.flatten_cons, List.flatten_nil, List.append_nil]
  entry_read
  pointwise
  blk_ext [idx_in t, idx_a t, idx_b t, elt]

/-- The rows the second view is compared with. -/
theorem raw1_at (c : Dev nD) (t : Fin cfg0.N) (r : Fin 400) (k : Fin 256) :
    (blocks m c t).raw1 (ix2 r k) = m ((c : Thread nD τ).loc main_arg2) (ix3 (elt t r) 4 k) := by
  have := lt25 t
  dsimp only [blocks]
  blk_simp [iblk, idx_in t, idx_a t, idx_b t]
  unfold V V0
  simp only [List.flatten_cons, List.flatten_nil, List.append_nil]
  entry_read
  pointwise
  blk_ext [idx_in t, idx_a t, idx_b t, elt]

/-- The last batch element's adjacency, second view. -/
theorem adjT2_at (c : Dev nD) (t : Fin cfg0.N) (n k : Fin 5) :
    (blocks m c t).adjT2 (ix2 n k) = m ((c : Thread nD τ).loc main_arg3) (ix3 9999 n k) := by
  have := lt25 t
  dsimp only [blocks]
  blk_simp [iblk, idx_in t, idx_a t, idx_b t]
  unfold V V0
  simp only [List.flatten_cons, List.flatten_nil, List.append_nil]
  entry_read
  pointwise
  blk_ext [idx_in t, idx_a t, idx_b t, elt]

/-- The last batch element's features, second view. -/
theorem featT2_at (c : Dev nD) (t : Fin cfg0.N) (n : Fin 5) (k : Fin 256) :
    (blocks m c t).featT2 (ix2 n k) = m ((c : Thread nD τ).loc main_arg4) (ix3 9999 n k) := by
  have := lt25 t
  dsimp only [blocks]
  blk_simp [iblk, idx_in t, idx_a t, idx_b t]
  unfold V V0
  simp only [List.flatten_cons, List.flatten_nil, List.append_nil]
  entry_read
  pointwise
  blk_ext [idx_in t, idx_a t, idx_b t, elt]

/-- The discriminator's matrix, second view. -/
theorem wb2_at (c : Dev nD) (t : Fin cfg0.N) (i k : Fin 64) :
    (blocks m c t).wb2 (ix2 i k) = m ((c : Thread nD τ).loc main_arg14) (ix2 i k) := by
  have := lt25 t
  dsimp only [blocks]
  blk_simp [iblk, idx_in t, idx_a t, idx_b t]
  unfold V V0
  simp only [List.flatten_cons, List.flatten_nil, List.append_nil]
  entry_read
  pointwise
  blk_ext [idx_in t, idx_a t, idx_b t, elt]

/-- The discriminator's bias, second view. -/
theorem bb2_at (c : Dev nD) (t : Fin cfg0.N) :
    (blocks m c t).bb2 (ix2 0 0) = m ((c : Thread nD τ).loc main_arg15) ix0 := by
  have := lt25 t
  dsimp only [blocks]
  blk_simp [iblk, idx_in t, idx_a t, idx_b t]
  unfold V V0
  simp only [List.flatten_cons, List.flatten_nil, List.append_nil]
  entry_read
  pointwise

/-- The encoder's weight. -/
theorem wEnc_at (c : Dev nD) (t : Fin cfg0.N) (n : Fin 256) (k : Fin 64) :
    (blocks m c t).wEnc (ix2 n k) = m ((c : Thread nD τ).loc main_arg6) (ix2 n k) := by
  have := lt25 t
  dsimp only [blocks]
  blk_simp [iblk, idx_in t, idx_a t, idx_b t]
  unfold V V0
  simp only [List.flatten_cons, List.flatten_nil, List.append_nil]
  entry_read
  pointwise
  blk_ext [idx_in t, idx_a t, idx_b t, elt]

/-- The encoder's bias. -/
theorem bEnc_at (c : Dev nD) (t : Fin cfg0.N) (k : Fin 64) :
    (blocks m c t).bEnc (ix2 0 k) = m ((c : Thread nD τ).loc main_arg7) (ix1 k) := by
  have := lt25 t
  dsimp only [blocks]
  blk_simp [iblk, idx_in t, idx_a t, idx_b t]
  unfold V V0
  simp only [List.flatten_cons, List.flatten_nil, List.append_nil]
  entry_read
  pointwise
  blk_ext [idx_in t, idx_a t, idx_b t, elt]

/-- The encoder's slope. -/
theorem aEnc_at (c : Dev nD) (t : Fin cfg0.N) :
    (blocks m c t).aEnc (ix2 0 0) = m ((c : Thread nD τ).loc main_arg8) ix0 := by
  have := lt25 t
  dsimp only [blocks]
  blk_simp [iblk, idx_in t, idx_a t, idx_b t]
  unfold V V0
  simp only [List.flatten_cons, List.flatten_nil, List.append_nil]
  entry_read
  pointwise

/-- The decoder's weight. -/
theorem wDec_at (c : Dev nD) (t : Fin cfg0.N) (n : Fin 64) (k : Fin 256) :
    (blocks m c t).wDec (ix2 n k) = m ((c : Thread nD τ).loc main_arg9) (ix2 n k) := by
  have := lt25 t
  dsimp only [blocks]
  blk_simp [iblk, idx_in t, idx_a t, idx_b t]
  unfold V V0
  simp only [List.flatten_cons, List.flatten_nil, List.append_nil]
  entry_read
  pointwise
  blk_ext [idx_in t, idx_a t, idx_b t, elt]

/-- The decoder's bias. -/
theorem bDec_at (c : Dev nD) (t : Fin cfg0.N) (k : Fin 256) :
    (blocks m c t).bDec (ix2 0 k) = m ((c : Thread nD τ).loc main_arg10) (ix1 k) := by
  have := lt25 t
  dsimp only [blocks]
  blk_simp [iblk, idx_in t, idx_a t, idx_b t]
  unfold V V0
  simp only [List.flatten_cons, List.flatten_nil, List.append_nil]
  entry_read
  pointwise
  blk_ext [idx_in t, idx_a t, idx_b t, elt]

/-- The decoder's slope. -/
theorem aDec_at (c : Dev nD) (t : Fin cfg0.N) :
    (blocks m c t).aDec (ix2 0 0) = m ((c : Thread nD τ).loc main_arg11) ix0 := by
  have := lt25 t
  dsimp only [blocks]
  blk_simp [iblk, idx_in t, idx_a t, idx_b t]
  unfold V V0
  simp only [List.flatten_cons, List.flatten_nil, List.append_nil]
  entry_read
  pointwise

/-- A small natural number, written as a 32-bit word, is read back signed as itself. -/
theorem toInt_small {n : ℕ} (h : n < 2 ^ 31) : (BitVec.ofNat 32 n).toInt = (n : ℤ) := by
  rw [BitVec.toInt_eq_toNat_of_lt] <;> rw [BitVec.toNat_ofNat, Nat.mod_eq_of_lt (by omega)]
  omega

/-- The comparisons that build the selecting matrix say: column `l` lies in the first 64 columns of tile `q`. -/
theorem pick_word (q l : ℕ) (hq : q < 25) (hl : l < 3200) :
    FloatOps.uitofp (F := Ideal) .f32 (IntOp.andi
        (IntOp.cmpi .sle (IntOp.muli (BitVec.ofNat 32 q) 128#32) (BitVec.ofNat 32 l))
        (IntOp.cmpi .slt (BitVec.ofNat 32 l) (IntOp.addi (IntOp.muli (BitVec.ofNat 32 q) 128#32) 64#32))) =
      if 128 * q ≤ l ∧ l < 128 * q + 64 then (1 : EReal) else 0 := by
  have e1 : IntOp.muli (BitVec.ofNat 32 q) 128#32 = BitVec.ofNat 32 (128 * q) := by
    unfold IntOp.muli
    rw [Nat.mul_comm, BitVec.ofNat_mul]
  have e2 : IntOp.addi (BitVec.ofNat 32 (128 * q)) 64#32 = BitVec.ofNat 32 (128 * q + 64) := by
    unfold IntOp.addi
    rw [BitVec.ofNat_add]
  rw [e1, e2]
  unfold IntOp.cmpi
  simp only [BitVec.sle, BitVec.slt, toInt_small (show 128 * q < 2 ^ 31 by omega), toInt_small (show l < 2 ^ 31 by omega),
    toInt_small (show 128 * q + 64 < 2 ^ 31 by omega)]
  by_cases h1 : 128 * q ≤ l <;> by_cases h2 : l < 128 * q + 64
  · rw [if_pos ⟨h1, h2⟩, decide_eq_true (by exact_mod_cast h1), decide_eq_true (by exact_mod_cast h2)]
    simp [IntOp.andi, FloatOps.uitofp]
  · rw [if_neg (fun h => h2 h.2), decide_eq_true (by exact_mod_cast h1), decide_eq_false (by exact_mod_cast h2)]
    simp [IntOp.andi, FloatOps.uitofp]
  · rw [if_neg (fun h => h1 h.1), decide_eq_false (by exact_mod_cast h1), decide_eq_true (by exact_mod_cast h2)]
    simp [IntOp.andi, FloatOps.uitofp]
  · rw [if_neg (fun h => h1 h.1), decide_eq_false (by exact_mod_cast h1), decide_eq_false (by exact_mod_cast h2)]
    simp [IntOp.andi, FloatOps.uitofp]

/-- The selecting matrix selects. -/
theorem picks_at (c : Dev nD) (t : Fin cfg0.N) : Picks (blocks m c t).pick := by
  intro q l
  dsimp only [blocks]
  blk_simp [iblk, idx_in t, idx_a t, idx_b t]
  unfold V V0
  simp only [List.flatten_cons, List.flatten_nil, List.append_nil]
  entry_read
  pointwise
  have e : ((View.whole main_v37).slice (win0_10.rect t)).emb (ix2 q l) = ix2 q l := by
    blk_ext [idx_in t, idx_a t, idx_b t]
  rw [e]
  exact pick_word q.val l.val q.isLt l.isLt

end Cert.KernelIdeal.Hand

end
-- ==== Proof.Arrays.lean ====
/- The result arrays after the run: one value of the whole batch each. -/
module

public import proofs.«01_k».proof.Proof.Contents
public import proofs.«01_k».proof.Proof.Batch

@[expose] public section

set_option maxRecDepth 16384

noncomputable section

open Idealize.ShloMosaic Idealize.ShloMosaic.TcCoe Idealize.SL.Sem Idealize.ShloMosaic.Tactic
open Idealize.ShloMosaic.Pipeline (Dat)

namespace Cert.KernelIdeal.Hand

open Cert.KernelIdeal Cert.KernelIdeal.Gen

variable (m : (ℓ : Loc nD τ sig) → Buf (Elt Ideal) ℓ)

/-- The encoder's parameters among the arguments. -/
def enc (c : Dev nD) : Spec.Enc where
  w d k := m ((c : Thread nD τ).loc main_arg6) (ix2 d k)
  b k := m ((c : Thread nD τ).loc main_arg7) (ix1 k)
  a := m ((c : Thread nD τ).loc main_arg8) ix0

/-- The decoder's parameters among the arguments. -/
def decd (c : Dev nD) : Spec.Dec where
  w k d := m ((c : Thread nD τ).loc main_arg9) (ix2 k d)
  b d := m ((c : Thread nD τ).loc main_arg10) (ix1 d)
  a := m ((c : Thread nD τ).loc main_arg11) ix0

/-- The first view among the arguments. -/
def side1 (c : Dev nD) : Spec.Side where
  A n i k := m ((c : Thread nD τ).loc main_arg0) (ix3 n i k)
  X n i d := m ((c : Thread nD τ).loc main_arg1) (ix3 n i d)
  T n d := m ((c : Thread nD τ).loc main_arg5) (ix3 n 4 d)
  W i k := m ((c : Thread nD τ).loc main_arg12) (ix2 i k)
  bias := m ((c : Thread nD τ).loc main_arg13) ix0

/-- The second view among the arguments. -/
def side2 (c : Dev nD) : Spec.Side where
  A n i k := m ((c : Thread nD τ).loc main_arg3) (ix3 n i k)
  X n i d := m ((c : Thread nD τ).loc main_arg4) (ix3 n i d)
  T n d := m ((c : Thread nD τ).loc main_arg2) (ix3 n 4 d)
  W i k := m ((c : Thread nD τ).loc main_arg14) (ix2 i k)
  bias := m ((c : Thread nD τ).loc main_arg15) ix0

theorem encOf_eq (c : Dev nD) (t : Fin cfg0.N) : encOf (blocks m c t) = enc m c := by
  simp only [encOf, enc, wEnc_at, bEnc_at, aEnc_at]

theorem decOf_eq (c : Dev nD) (t : Fin cfg0.N) : decOf (blocks m c t) = decd m c := by
  simp only [decOf, decd, wDec_at, bDec_at, aDec_at]

/-- The point before a point that is not the first. -/
theorem pred_val (t : Fin cfg0.N) : (pred t).val = t.val - 1 := rfl

theorem adjRow1_eq (c : Dev nD) (t : Fin cfg0.N) (r : Fin 400) :
    adjRow (blocks m c t).adj1 r = (side1 m c).A (elt t r) :=
  funext fun n => funext fun k => adj1_at m c t r n k

theorem featRow1_eq (c : Dev nD) (t : Fin cfg0.N) (r : Fin 400) :
    featRow (blocks m c t).feat1 r = (side1 m c).X (elt t r) :=
  funext fun n => funext fun k => feat1_at m c t r n k

theorem hidRow1_eq (c : Dev nD) (t : Fin cfg0.N) (r : Fin 400) :
    hidRow1 (blocks m c t) r = Spec.hid (enc m c) ((side1 m c).A (elt t r)) ((side1 m c).X (elt t r)) := by
  unfold hidRow1
  rw [encOf_eq, adjRow1_eq, featRow1_eq]

theorem ctxRow1_eq (c : Dev nD) (t : Fin cfg0.N) (r : Fin 400) :
    ctxRow1 (blocks m c t) r = Spec.ctx (enc m c) ((side1 m c).A (elt t r)) ((side1 m c).X (elt t r)) := by
  unfold ctxRow1
  rw [encOf_eq, adjRow1_eq, featRow1_eq]

theorem ctxTail1_eq (c : Dev nD) (t : Fin cfg0.N) :
    ctxTail1 (blocks m c t) = Spec.ctx (enc m c) ((side1 m c).A 9999) ((side1 m c).X 9999) := by
  unfold ctxTail1
  rw [encOf_eq, show (fun n k => (blocks m c t).adjT1 (ix2 n k)) = (side1 m c).A 9999 from
      funext fun n => funext fun k => adjT1_at m c t n k,
    show (fun n k => (blocks m c t).featT1 (ix2 n k)) = (side1 m c).X 9999 from
      funext fun n => funext fun k => featT1_at m c t n k]

theorem disc1_eq (c : Dev nD) (t : Fin cfg0.N) : disc1 (blocks m c t) = Spec.logit (side1 m c).W (side1 m c).bias := by
  simp only [disc1, wb1_at, bb1_at, side1]

/-- The positive logits of the first view, one block at a time. -/
theorem pos1_block (c : Dev nD) (t : Fin cfg0.N) (r : Fin 400) (z : Fin 1) :
    pos1 (blocks m c t) (ix2 r z) = (side1 m c).pos (enc m c) (elt t r) := by
  rw [pos1_at _ (picks_at m c t), disc1_eq, hidRow1_eq, ctxRow1_eq]
  rfl

/-- The negative logits of the first view: within a block the row before, at a block's start the row carried, at the very
    start the last batch element. -/
theorem neg1_block (c : Dev nD) (t : Fin cfg0.N) (r : Fin 400) (z : Fin 1) :
    neg1 (blocks m c t) (BitVec.ofNat 32 ((grid0.coords t) 0).val) (before1 m c t) (ix2 r z) =
      (side1 m c).neg (enc m c) (elt t r) := by
  have hp := picks_at m c t
  have ht := lt25 t
  rw [coord_val]
  unfold Spec.Side.neg
  by_cases hr : 0 < r.val
  · have e : Spec.prev (elt t r) = elt t ⟨r.val - 1, by omega⟩ := Spec.prev_of_pos (by dsimp only [elt]; omega)
    rw [neg1_at_succ _ hp _ _ r hr, disc1_eq, hidRow1_eq, ctxRow1_eq, e]
  · obtain rfl : r = 0 := Fin.ext (by change r.val = 0; omega)
    by_cases h0 : t.val = 0
    · have e : Spec.prev (elt t 0) = 9999 := Spec.prev_of_zero (by change 400 * t.val + 0 = 0; omega)
      rw [h0, neg1_at_zero _ hp, disc1_eq, hidRow1_eq, ctxTail1_eq, e]
    · have e : Spec.prev (elt t 0) = elt (pred t) 399 :=
        Spec.prev_of_pos (by change 400 * (t.val - 1) + 399 + 1 = 400 * t.val + 0; omega)
      have ha : BitVec.ofNat 32 t.val ≠ 0#32 := fun h => h0 (by
        have := congrArg BitVec.toNat h
        rw [BitVec.toNat_ofNat, Nat.mod_eq_of_lt (by omega)] at this
        exact this)
      have hs : (fun k => before1 m c t (ix2 0 k)) = ctxRow1 (blocks m c (pred t)) 399 :=
        funext fun k => carry1_at _ (picks_at m c (pred t)) k 0
      rw [neg1_at_carried _ hp _ ha, hs, disc1_eq, hidRow1_eq, ctxRow1_eq, e]

/-- The scores of the first view, one block at a time. -/
theorem score1_block (c : Dev nD) (t : Fin cfg0.N) (r : Fin 400) (z : Fin 1) :
    score1 (blocks m c t) (ix2 r z) = (side1 m c).scoreMix (enc m c) (decd m c) (elt t r) := by
  rw [score1_at _ (picks_at m c t), encOf_eq, decOf_eq, adjRow1_eq, featRow1_eq,
    show (fun k => (blocks m c t).raw2 (ix2 r k)) = (side1 m c).T (elt t r) from funext fun k => raw2_at m c t r k]
  rfl

theorem adjRow2_eq (c : Dev nD) (t : Fin cfg0.N) (r : Fin 400) :
    adjRow (blocks m c t).adj2 r = (side2 m c).A (elt t r) :=
  funext fun n => funext fun k => adj2_at m c t r n k

theorem featRow2_eq (c : Dev nD) (t : Fin cfg0.N) (r : Fin 400) :
    featRow (blocks m c t).feat2 r = (side2 m c).X (elt t r) :=
  funext fun n => funext fun k => feat2_at m c t r n k

theorem hidRow2_eq (c : Dev nD) (t : Fin cfg0.N) (r : Fin 400) :
    hidRow2 (blocks m c t) r = Spec.hid (enc m c) ((side2 m c).A (elt t r)) ((side2 m c).X (elt t r)) := by
  unfold hidRow2
  rw [encOf_eq, adjRow2_eq, featRow2_eq]

theorem ctxRow2_eq (c : Dev nD) (t : Fin cfg0.N) (r : Fin 400) :
    ctxRow2 (blocks m c t) r = Spec.ctx (enc m c) ((side2 m c).A (elt t r)) ((side2 m c).X (elt t r)) := by
  unfold ctxRow2
  rw [encOf_eq, adjRow2_eq, featRow2_eq]

theorem ctxTail2_eq (c : Dev nD) (t : Fin cfg0.N) :
    ctxTail2 (blocks m c t) = Spec.ctx (enc m c) ((side2 m c).A 9999) ((side2 m c).X 9999) := by
  unfold ctxTail2
  rw [encOf_eq, show (fun n k => (blocks m c t).adjT2 (ix2 n k)) = (side2 m c).A 9999 from
      funext fun n => funext fun k => adjT2_at m c t n k,
    show (fun n k => (blocks m c t).featT2 (ix2 n k)) = (side2 m c).X 9999 from
      funext fun n => funext fun k => featT2_at m c t n k]

theorem disc2_eq (c : Dev nD) (t : Fin cfg0.N) : disc2 (blocks m c t) = Spec.logit (side2 m c).W (side2 m c).bias := by
  simp only [disc2, wb2_at, bb2_at, side2]

/-- The positive logits of the second view, one block at a time. -/
theorem pos2_block (c : Dev nD) (t : Fin cfg0.N) (r : Fin 400) (z : Fin 1) :
    pos2 (blocks m c t) (ix2 r z) = (side2 m c).pos (enc m c) (elt t r) := by
  rw [pos2_at _ (picks_at m c t), disc2_eq, hidRow2_eq, ctxRow2_eq]
  rfl

/-- The negative logits of the second view: within a block the row before, at a block's start the row carried, at the very
    start the last batch element. -/
theorem neg2_block (c : Dev nD) (t : Fin cfg0.N) (r : Fin 400) (z : Fin 1) :
    neg2 (blocks m c t) (BitVec.ofNat 32 ((grid0.coords t) 0).val) (before2 m c t) (ix2 r z) =
      (side2 m c).neg (enc m c) (elt t r) := by
  have hp := picks_at m c t
  have ht := lt25 t
  rw [coord_val]
  unfold Spec.Side.neg
  by_cases hr : 0 < r.val
  · have e : Spec.prev (elt t r) = elt t ⟨r.val - 1, by omega⟩ := Spec.prev_of_pos (by dsimp only [elt]; omega)
    rw [neg2_at_succ _ hp _ _ r hr, disc2_eq, hidRow2_eq, ctxRow2_eq, e]
  · obtain rfl : r = 0 := Fin.ext (by change r.val = 0; omega)
    by_cases h0 : t.val = 0
    · have e : Spec.prev (elt t 0) = 9999 := Spec.prev_of_zero (by change 400 * t.val + 0 = 0; omega)
      rw [h0, neg2_at_zero _ hp, disc2_eq, hidRow2_eq, ctxTail2_eq, e]
    · have e : Spec.prev (elt t 0) = elt (pred t) 399 :=
        Spec.prev_of_pos (by change 400 * (t.val - 1) + 399 + 1 = 400 * t.val + 0; omega)
      have ha : BitVec.ofNat 32 t.val ≠ 0#32 := fun h => h0 (by
        have := congrArg BitVec.toNat h
        rw [BitVec.toNat_ofNat, Nat.mod_eq_of_lt (by omega)] at this
        exact this)
      have hs : (fun k => before2 m c t (ix2 0 k)) = ctxRow2 (blocks m c (pred t)) 399 :=
        funext fun k => carry2_at _ (picks_at m c (pred t)) k 0
      rw [neg2_at_carried _ hp _ ha, hs, disc2_eq, hidRow2_eq, ctxRow2_eq, e]

/-- The scores of the second view, one block at a time. -/
theorem score2_block (c : Dev nD) (t : Fin cfg0.N) (r : Fin 400) (z : Fin 1) :
    score2 (blocks m c t) (ix2 r z) = (side2 m c).scoreMix (enc m c) (decd m c) (elt t r) := by
  rw [score2_at _ (picks_at m c t), encOf_eq, decOf_eq, adjRow2_eq, featRow2_eq,
    show (fun k => (blocks m c t).raw1 (ix2 r k)) = (side2 m c).T (elt t r) from funext fun k => raw1_at m c t r k]
  rfl

/-- Result array `pos1` after the run. -/
theorem pos1_array (c : Dev nD) : (dats m 0 c).arrAt 21 cfg0.N = fun i => (side1 m c).pos (enc m c) (i 0) := by
  refine (dats m 0 c).arrAt_eq_of_covers 21 _ (by decide +kernel) fun t _ y => ?_
  obtain ⟨r, z, rfl⟩ : ∃ (r : Fin 400) (z : Fin 1), y = ix2 r z := ⟨y 0, y 1, by funext a; fin_cases a <;> rfl⟩
  have e : (((cfg0.win 21).blk t).view.emb (ix2 r z)) 0 = elt t r := by
    refine Fin.ext (Eq.trans ?_ (rfl : 400 * t.val + r.val = _))
    blk_simp [idx_out t]
    omega
  blk_simp
  rw [after0_21]
  refine (pos1_block m c t r z).trans ?_
  exact congrArg ((side1 m c).pos (enc m c)) e.symm

/-- Result array `neg1` after the run. -/
theorem neg1_array (c : Dev nD) : (dats m 0 c).arrAt 22 cfg0.N = fun i => (side1 m c).neg (enc m c) (i 0) := by
  refine (dats m 0 c).arrAt_eq_of_covers 22 _ (by decide +kernel) fun t _ y => ?_
  obtain ⟨r, z, rfl⟩ : ∃ (r : Fin 400) (z : Fin 1), y = ix2 r z := ⟨y 0, y 1, by funext a; fin_cases a <;> rfl⟩
  have e : (((cfg0.win 22).blk t).view.emb (ix2 r z)) 0 = elt t r := by
    refine Fin.ext (Eq.trans ?_ (rfl : 400 * t.val + r.val = _))
    blk_simp [idx_out t]
    omega
  blk_simp
  rw [after0_22]
  refine (neg1_block m c t r z).trans ?_
  exact congrArg ((side1 m c).neg (enc m c)) e.symm

/-- Result array `pos2` after the run. -/
theorem pos2_array (c : Dev nD) : (dats m 0 c).arrAt 23 cfg0.N = fun i => (side2 m c).pos (enc m c) (i 0) := by
  refine (dats m 0 c).arrAt_eq_of_covers 23 _ (by decide +kernel) fun t _ y => ?_
  obtain ⟨r, z, rfl⟩ : ∃ (r : Fin 400) (z : Fin 1), y = ix2 r z := ⟨y 0, y 1, by funext a; fin_cases a <;> rfl⟩
  have e : (((cfg0.win 23).blk t).view.emb (ix2 r z)) 0 = elt t r := by
    refine Fin.ext (Eq.trans ?_ (rfl : 400 * t.val + r.val = _))
    blk_simp [idx_out t]
    omega
  blk_simp
  rw [after0_23]
  refine (pos2_block m c t r z).trans ?_
  exact congrArg ((side2 m c).pos (enc m c)) e.symm

/-- Result array `neg2` after the run. -/
theorem neg2_array (c : Dev nD) : (dats m 0 c).arrAt 24 cfg0.N = fun i => (side2 m c).neg (enc m c) (i 0) := by
  refine (dats m 0 c).arrAt_eq_of_covers 24 _ (by decide +kernel) fun t _ y => ?_
  obtain ⟨r, z, rfl⟩ : ∃ (r : Fin 400) (z : Fin 1), y = ix2 r z := ⟨y 0, y 1, by funext a; fin_cases a <;> rfl⟩
  have e : (((cfg0.win 24).blk t).view.emb (ix2 r z)) 0 = elt t r := by
    refine Fin.ext (Eq.trans ?_ (rfl : 400 * t.val + r.val = _))
    blk_simp [idx_out t]
    omega
  blk_simp
  rw [after0_24]
  refine (neg2_block m c t r z).trans ?_
  exact congrArg ((side2 m c).neg (enc m c)) e.symm

/-- Result array `score1` after the run. -/
theorem score1_array (c : Dev nD) : (dats m 0 c).arrAt 25 cfg0.N = fun i => (side1 m c).scoreMix (enc m c) (decd m c) (i 0) := by
  refine (dats m 0 c).arrAt_eq_of_covers 25 _ (by decide +kernel) fun t _ y => ?_
  obtain ⟨r, z, rfl⟩ : ∃ (r : Fin 400) (z : Fin 1), y = ix2 r z := ⟨y 0, y 1, by funext a; fin_cases a <;> rfl⟩
  have e : (((cfg0.win 25).blk t).view.emb (ix2 r z)) 0 = elt t r := by
    refine Fin.ext (Eq.trans ?_ (rfl : 400 * t.val + r.val = _))
    blk_simp [idx_out t]
    omega
  blk_simp
  rw [after0_25]
  refine (score1_block m c t r z).trans ?_
  exact congrArg ((side1 m c).scoreMix (enc m c) (decd m c)) e.symm

/-- Result array `score2` after the run. -/
theorem score2_array (c : Dev nD) : (dats m 0 c).arrAt 26 cfg0.N = fun i => (side2 m c).scoreMix (enc m c) (decd m c) (i 0) := by
  refine (dats m 0 c).arrAt_eq_of_covers 26 _ (by decide +kernel) fun t _ y => ?_
  obtain ⟨r, z, rfl⟩ : ∃ (r : Fin 400) (z : Fin 1), y = ix2 r z := ⟨y 0, y 1, by funext a; fin_cases a <;> rfl⟩
  have e : (((cfg0.win 26).blk t).view.emb (ix2 r z)) 0 = elt t r := by
    refine Fin.ext (Eq.trans ?_ (rfl : 400 * t.val + r.val = _))
    blk_simp [idx_out t]
    omega
  blk_simp
  rw [after0_26]
  refine (score2_block m c t r z).trans ?_
  exact congrArg ((side2 m c).scoreMix (enc m c) (decd m c)) e.symm

end Cert.KernelIdeal.Hand

end
-- ==== Proof.Result.lean ====
/- The result the host lines make of the six arrays: the columns one after the other. -/
module

public import proofs.«01_k».proof.Proof.Arrays

@[expose] public section

set_option maxRecDepth 16384

noncomputable section

open Idealize.ShloMosaic Idealize.ShloMosaic.TcCoe Idealize.SL.Sem Idealize.ShloMosaic.Tactic
open Idealize.ShloMosaic.Pipeline (Dat)

namespace Cert.KernelIdeal.Hand

open Cert.KernelIdeal Cert.KernelIdeal.Gen

variable (m : (ℓ : Loc nD τ sig) → Buf (Elt Ideal) ℓ)

/-- No two windows stage the same array. -/
theorem arrRef_inj : Function.Injective (Pipeline.arrRef spec0) := by decide

/-- The host lines after the call: each array as a column, the columns joined. -/
theorem suffix_result (W : Valuation τ sig (Elt Ideal)) :
    StableHlo.after hostOps1 W (Proc.devRef .tc main_v51) =
      concatenate S60000 0 [⟨S10000, shapeCast S10000 (W (Proc.devRef .tc main_v44_0) : FVec Ideal S10000x1 .f32) shapeCasts_S10000x1_S10000⟩,
        ⟨S10000, shapeCast S10000 (W (Proc.devRef .tc main_v44_1) : FVec Ideal S10000x1 .f32) shapeCasts_S10000x1_S10000⟩,
        ⟨S10000, shapeCast S10000 (W (Proc.devRef .tc main_v44_2) : FVec Ideal S10000x1 .f32) shapeCasts_S10000x1_S10000⟩,
        ⟨S10000, shapeCast S10000 (W (Proc.devRef .tc main_v44_3) : FVec Ideal S10000x1 .f32) shapeCasts_S10000x1_S10000⟩,
        ⟨S10000, shapeCast S10000 (W (Proc.devRef .tc main_v44_4) : FVec Ideal S10000x1 .f32) shapeCasts_S10000x1_S10000⟩,
        ⟨S10000, shapeCast S10000 (W (Proc.devRef .tc main_v44_5) : FVec Ideal S10000x1 .f32) shapeCasts_S10000x1_S10000⟩]
        concatenates_S10000_S10000_S10000_S10000_S10000_S10000_S60000_d0 := by
  unfold hostOps1
  after_results
  rfl

/-- Six columns joined, read at an index. -/
theorem columns_at (p1 n1 p2 n2 s1 s2 : Fin 10000 → EReal) (i : Fin 60000) :
    concatenate S60000 0 [⟨S10000, shapeCast S10000 (fun i => p1 (i 0) : FVec Ideal S10000x1 .f32) shapeCasts_S10000x1_S10000⟩,
        ⟨S10000, shapeCast S10000 (fun i => n1 (i 0) : FVec Ideal S10000x1 .f32) shapeCasts_S10000x1_S10000⟩,
        ⟨S10000, shapeCast S10000 (fun i => p2 (i 0) : FVec Ideal S10000x1 .f32) shapeCasts_S10000x1_S10000⟩,
        ⟨S10000, shapeCast S10000 (fun i => n2 (i 0) : FVec Ideal S10000x1 .f32) shapeCasts_S10000x1_S10000⟩,
        ⟨S10000, shapeCast S10000 (fun i => s1 (i 0) : FVec Ideal S10000x1 .f32) shapeCasts_S10000x1_S10000⟩,
        ⟨S10000, shapeCast S10000 (fun i => s2 (i 0) : FVec Ideal S10000x1 .f32) shapeCasts_S10000x1_S10000⟩]
        concatenates_S10000_S10000_S10000_S10000_S10000_S10000_S60000_d0 (ix1 i) = Spec.joined p1 n1 p2 n2 s1 s2 i := by
  pointwise
  have hi := i.isLt
  repeat' split
  all_goals first
    | exact (Spec.joined_0 _ _ _ _ _ _ (by dsimp only; omega)).symm
    | exact (Spec.joined_1 _ _ _ _ _ _ (by dsimp only; omega)).symm
    | exact (Spec.joined_2 _ _ _ _ _ _ (by dsimp only; omega)).symm
    | exact (Spec.joined_3 _ _ _ _ _ _ (by dsimp only; omega)).symm
    | exact (Spec.joined_4 _ _ _ _ _ _ (by dsimp only; omega)).symm
    | exact (Spec.joined_5 _ _ _ _ _ _ (by dsimp only; omega)).symm

/-- The kernel's result: both views' logits, then both scores. -/
theorem result_at (c : Dev nD) (i : Fin 60000) :
    Pipeline.afterTail₀ cfgs (dats m) 0 (V0 m) [hostOps1] c main_v51 (ix1 i) =
      Spec.joined ((side1 m c).pos (enc m c)) ((side1 m c).neg (enc m c)) ((side2 m c).pos (enc m c)) ((side2 m c).neg (enc m c))
        ((side1 m c).scoreMix (enc m c) (decd m c)) ((side2 m c).scoreMix (enc m c) (decd m c)) i := by
  unfold Pipeline.afterTail₀
  simp only [List.flatten_cons, List.flatten_nil, List.append_nil]
  rw [suffix_result]
  generalize hW : Pipeline.withArrays (cfgs 0).spec c (V0 m c) (fun w => (dats m 0 c).arrAt w (cfgs 0).N) = W
  have h0 : W (Proc.devRef .tc main_v44_0) = fun i => ((side1 m c).pos (enc m c)) (i 0) := by
    subst hW
    exact (Pipeline.withArrays_arr spec0 arrRef_inj c _ _ 21).trans (pos1_array m c)
  have h1 : W (Proc.devRef .tc main_v44_1) = fun i => ((side1 m c).neg (enc m c)) (i 0) := by
    subst hW
    exact (Pipeline.withArrays_arr spec0 arrRef_inj c _ _ 22).trans (neg1_array m c)
  have h2 : W (Proc.devRef .tc main_v44_2) = fun i => ((side2 m c).pos (enc m c)) (i 0) := by
    subst hW
    exact (Pipeline.withArrays_arr spec0 arrRef_inj c _ _ 23).trans (pos2_array m c)
  have h3 : W (Proc.devRef .tc main_v44_3) = fun i => ((side2 m c).neg (enc m c)) (i 0) := by
    subst hW
    exact (Pipeline.withArrays_arr spec0 arrRef_inj c _ _ 24).trans (neg2_array m c)
  have h4 : W (Proc.devRef .tc main_v44_4) = fun i => ((side1 m c).scoreMix (enc m c) (decd m c)) (i 0) := by
    subst hW
    exact (Pipeline.withArrays_arr spec0 arrRef_inj c _ _ 25).trans (score1_array m c)
  have h5 : W (Proc.devRef .tc main_v44_5) = fun i => ((side2 m c).scoreMix (enc m c) (decd m c)) (i 0) := by
    subst hW
    exact (Pipeline.withArrays_arr spec0 arrRef_inj c _ _ 26).trans (score2_array m c)
  simp only [h0, h1, h2, h3, h4, h5]
  exact columns_at _ _ _ _ _ _ i

end Cert.KernelIdeal.Hand

end
-- ==== Proof.Reference.lean ====
/- The reference's results: the same values of the whole batch, the decoder's weight applied to each hidden row. -/
module

public import proofs.«01_k».proof.Proof.Gen.ReferenceIdeal.Read
public import proofs.«01_k».proof.Proof.Batch
public import Idealize.ShloMosaic.Lib.Pointwise

@[expose] public section

set_option maxRecDepth 16384

noncomputable section

namespace Cert.ReferenceIdeal.Hand

open Cert.ReferenceIdeal Cert.ReferenceIdeal.Gen Cert.ReferenceIdeal.Value Cert.ReferenceIdeal.Read
open Idealize.ShloMosaic Idealize.ShloMosaic.TcCoe Idealize.ShloMosaic.Tactic

/-- The encoder's parameters. -/
def enc (x6 : FVec Ideal S256x64 .f32) (x7 : FVec Ideal S64 .f32) (x8 : FVec Ideal S_ .f32) : Spec.Enc where
  w d k := x6 (ix2 d k)
  b k := x7 (ix1 k)
  a := x8 ix0

/-- The decoder's parameters. -/
def decd (x9 : FVec Ideal S64x256 .f32) (x10 : FVec Ideal S256 .f32) (x11 : FVec Ideal S_ .f32) : Spec.Dec where
  w k d := x9 (ix2 k d)
  b d := x10 (ix1 d)
  a := x11 ix0

/-- One view. -/
def side (a : FVec Ideal S10000x5x5 .f32) (x t : FVec Ideal S10000x5x256 .f32) (w : FVec Ideal S64x64 .f32) (b : FVec Ideal S_ .f32) :
    Spec.Side where
  A n i k := a (ix3 n i k)
  X n i d := x (ix3 n i d)
  T n d := t (ix3 n 4 d)
  W i k := w (ix2 i k)
  bias := b ix0

/-- The discriminator, its factors in the other order. -/
theorem logit_comm (s : Spec.Side) (h c : Fin 64 → EReal) :
    (∑ j : Fin 64, c j * ∑ i : Fin 64, s.W i j * h i) + s.bias = Spec.logit s.W s.bias h c := by
  unfold Spec.logit
  simp only [mul_comm]

theorem hid1_at (x0 : FVec Ideal S10000x5x5 .f32) (x1 : FVec Ideal S10000x5x256 .f32) (x6 : FVec Ideal S256x64 .f32) (x7 : FVec Ideal S64 .f32) (x8 : FVec Ideal S_ .f32) (n : Fin 10000) (i : Fin 5) (k : Fin 64) :
    val_main_v9 (F := Ideal) x0 x1 x6 x7 x8 (ix3 n i k) =
      Spec.hid (enc x6 x7 x8) (fun i j => x0 (ix3 n i j)) (fun i d => x1 (ix3 n i d)) i k := by
  pointwise [val_main_v0, val_main_v1, val_main_v2, val_main_v3, val_main_v4, val_main_v5, val_main_v6, val_main_v7, val_main_v8, val_main_v9, val_main_cst]
  rfl

theorem ctx1_at (x0 : FVec Ideal S10000x5x5 .f32) (x1 : FVec Ideal S10000x5x256 .f32) (x6 : FVec Ideal S256x64 .f32) (x7 : FVec Ideal S64 .f32) (x8 : FVec Ideal S_ .f32) (n : Fin 10000) (k : Fin 64) :
    val_main_v23 (F := Ideal) x0 x1 x6 x7 x8 (ix2 n k) =
      Spec.ctx (enc x6 x7 x8) (fun i j => x0 (ix3 n i j)) (fun i d => x1 (ix3 n i d)) k := by
  pointwise [val_main_v20, val_main_v21, val_main_v22, val_main_v23, val_main_cst_1, val_main_cst_2]
  simp only [hid1_at, Fin.sum_univ_four, Spec.div_four]
  rfl

theorem mid1_at (x0 : FVec Ideal S10000x5x5 .f32) (x1 : FVec Ideal S10000x5x256 .f32) (x6 : FVec Ideal S256x64 .f32) (x7 : FVec Ideal S64 .f32) (x8 : FVec Ideal S_ .f32) (n : Fin 10000) (k : Fin 64) :
    val_main_v29 (F := Ideal) x0 x1 x6 x7 x8 (ix2 n k) =
      Spec.hid (enc x6 x7 x8) (fun i j => x0 (ix3 n i j)) (fun i d => x1 (ix3 n i d)) 4 k := by
  pointwise [val_main_v28, val_main_v29]
  exact hid1_at x0 x1 x6 x7 x8 n 4 k

/-- The reference's positive logits, first view. -/
theorem pos1_at (x0 : FVec Ideal S10000x5x5 .f32) (x1 : FVec Ideal S10000x5x256 .f32) (x5 : FVec Ideal S10000x5x256 .f32) (x6 : FVec Ideal S256x64 .f32) (x7 : FVec Ideal S64 .f32) (x8 : FVec Ideal S_ .f32) (x12 : FVec Ideal S64x64 .f32) (x13 : FVec Ideal S_ .f32) (n : Fin 10000) :
    val_main_v35 (F := Ideal) x0 x1 x6 x7 x8 x12 x13 (ix1 n) = (side x0 x1 x5 x12 x13).pos (enc x6 x7 x8) n := by
  pointwise [val_main_v32, val_main_v33, val_main_v34, val_main_v35]
  simp only [ctx1_at, mid1_at]
  exact logit_comm (side x0 x1 x5 x12 x13) _ _

/-- The context rows moved on by one. -/
theorem shift1_at (x0 : FVec Ideal S10000x5x5 .f32) (x1 : FVec Ideal S10000x5x256 .f32) (x5 : FVec Ideal S10000x5x256 .f32) (x6 : FVec Ideal S256x64 .f32) (x7 : FVec Ideal S64 .f32) (x8 : FVec Ideal S_ .f32) (x12 : FVec Ideal S64x64 .f32) (x13 : FVec Ideal S_ .f32) (n : Fin 10000) (k : Fin 64) :
    val_main_v38 (F := Ideal) x0 x1 x6 x7 x8 (ix2 n k) =
      Spec.ctx (enc x6 x7 x8) ((side x0 x1 x5 x12 x13).A (Spec.prev n)) ((side x0 x1 x5 x12 x13).X (Spec.prev n)) k := by
  pointwise [val_main_v36, val_main_v37, val_main_v38]
  simp only [ctx1_at]
  split
  next h =>
    have e : Spec.prev n = ⟨9999 + n.val, by omega⟩ :=
      (Spec.prev_of_zero (by omega)).trans (Fin.ext (by change 9999 = 9999 + n.val; omega))
    rw [e]
    rfl
  next h =>
    have e : Spec.prev n = ⟨n.val - 1, by omega⟩ := Spec.prev_of_pos (by dsimp only; omega)
    rw [e]
    rfl

/-- The reference's negative logits, first view. -/
theorem neg1_at (x0 : FVec Ideal S10000x5x5 .f32) (x1 : FVec Ideal S10000x5x256 .f32) (x5 : FVec Ideal S10000x5x256 .f32) (x6 : FVec Ideal S256x64 .f32) (x7 : FVec Ideal S64 .f32) (x8 : FVec Ideal S_ .f32) (x12 : FVec Ideal S64x64 .f32) (x13 : FVec Ideal S_ .f32) (n : Fin 10000) :
    val_main_v42 (F := Ideal) x0 x1 x6 x7 x8 x12 x13 (ix1 n) = (side x0 x1 x5 x12 x13).neg (enc x6 x7 x8) n := by
  pointwise [val_main_v39, val_main_v40, val_main_v41, val_main_v42]
  simp only [shift1_at x0 x1 x5 x6 x7 x8 x12 x13, mid1_at]
  exact logit_comm (side x0 x1 x5 x12 x13) _ _

theorem dec1_at (x0 : FVec Ideal S10000x5x5 .f32) (x1 : FVec Ideal S10000x5x256 .f32) (x6 : FVec Ideal S256x64 .f32) (x7 : FVec Ideal S64 .f32) (x8 : FVec Ideal S_ .f32) (x9 : FVec Ideal S64x256 .f32) (x10 : FVec Ideal S256 .f32) (x11 : FVec Ideal S_ .f32) (n : Fin 10000) (j : Fin 256) :
    val_main_v65 (F := Ideal) x0 x1 x6 x7 x8 x9 x10 x11 (ix3 n 4 j) =
      Spec.dec (enc x6 x7 x8) (decd x9 x10 x11) (fun i j => x0 (ix3 n i j)) (fun i d => x1 (ix3 n i d)) j := by
  pointwise [val_main_v56, val_main_v57, val_main_v58, val_main_v59, val_main_v60, val_main_v61, val_main_v62, val_main_v63, val_main_v64, val_main_v65, val_main_cst_5]
  simp only [hid1_at]
  rfl

/-- The reference's scores, first view. -/
theorem score1_at (x0 : FVec Ideal S10000x5x5 .f32) (x1 : FVec Ideal S10000x5x256 .f32) (x5 : FVec Ideal S10000x5x256 .f32) (x6 : FVec Ideal S256x64 .f32) (x7 : FVec Ideal S64 .f32) (x8 : FVec Ideal S_ .f32) (x9 : FVec Ideal S64x256 .f32) (x10 : FVec Ideal S256 .f32) (x11 : FVec Ideal S_ .f32) (x12 : FVec Ideal S64x64 .f32) (x13 : FVec Ideal S_ .f32) (n : Fin 10000) :
    val_main_v85 (F := Ideal) x0 x1 x5 x6 x7 x8 x9 x10 x11 (ix1 n) = (side x0 x1 x5 x12 x13).score (enc x6 x7 x8) (decd x9 x10 x11) n := by
  pointwise [val_main_v76, val_main_v77, val_main_v78, val_main_v79, val_main_v80, val_main_v81, val_main_v82, val_main_v83, val_main_v84, val_main_v85, val_main_cst_7, val_main_cst_8]
  simp only [dec1_at]
  rfl

theorem hid2_at (x3 : FVec Ideal S10000x5x5 .f32) (x4 : FVec Ideal S10000x5x256 .f32) (x6 : FVec Ideal S256x64 .f32) (x7 : FVec Ideal S64 .f32) (x8 : FVec Ideal S_ .f32) (n : Fin 10000) (i : Fin 5) (k : Fin 64) :
    val_main_v19 (F := Ideal) x3 x4 x6 x7 x8 (ix3 n i k) =
      Spec.hid (enc x6 x7 x8) (fun i j => x3 (ix3 n i j)) (fun i d => x4 (ix3 n i d)) i k := by
  pointwise [val_main_v10, val_main_v11, val_main_v12, val_main_v13, val_main_v14, val_main_v15, val_main_v16, val_main_v17, val_main_v18, val_main_v19, val_main_cst_0]
  rfl

theorem ctx2_at (x3 : FVec Ideal S10000x5x5 .f32) (x4 : FVec Ideal S10000x5x256 .f32) (x6 : FVec Ideal S256x64 .f32) (x7 : FVec Ideal S64 .f32) (x8 : FVec Ideal S_ .f32) (n : Fin 10000) (k : Fin 64) :
    val_main_v27 (F := Ideal) x3 x4 x6 x7 x8 (ix2 n k) =
      Spec.ctx (enc x6 x7 x8) (fun i j => x3 (ix3 n i j)) (fun i d => x4 (ix3 n i d)) k := by
  pointwise [val_main_v24, val_main_v25, val_main_v26, val_main_v27, val_main_cst_3, val_main_cst_4]
  simp only [hid2_at, Fin.sum_univ_four, Spec.div_four]
  rfl

theorem mid2_at (x3 : FVec Ideal S10000x5x5 .f32) (x4 : FVec Ideal S10000x5x256 .f32) (x6 : FVec Ideal S256x64 .f32) (x7 : FVec Ideal S64 .f32) (x8 : FVec Ideal S_ .f32) (n : Fin 10000) (k : Fin 64) :
    val_main_v31 (F := Ideal) x3 x4 x6 x7 x8 (ix2 n k) =
      Spec.hid (enc x6 x7 x8) (fun i j => x3 (ix3 n i j)) (fun i d => x4 (ix3 n i d)) 4 k := by
  pointwise [val_main_v30, val_main_v31]
  exact hid2_at x3 x4 x6 x7 x8 n 4 k

/-- The reference's positive logits, second view. -/
theorem pos2_at (x2 : FVec Ideal S10000x5x256 .f32) (x3 : FVec Ideal S10000x5x5 .f32) (x4 : FVec Ideal S10000x5x256 .f32) (x6 : FVec Ideal S256x64 .f32) (x7 : FVec Ideal S64 .f32) (x8 : FVec Ideal S_ .f32) (x14 : FVec Ideal S64x64 .f32) (x15 : FVec Ideal S_ .f32) (n : Fin 10000) :
    val_main_v47 (F := Ideal) x3 x4 x6 x7 x8 x14 x15 (ix1 n) = (side x3 x4 x2 x14 x15).pos (enc x6 x7 x8) n := by
  pointwise [val_main_v44, val_main_v45, val_main_v46, val_main_v47]
  simp only [ctx2_at, mid2_at]
  exact logit_comm (side x3 x4 x2 x14 x15) _ _

/-- The context rows moved on by one. -/
theorem shift2_at (x2 : FVec Ideal S10000x5x256 .f32) (x3 : FVec Ideal S10000x5x5 .f32) (x4 : FVec Ideal S10000x5x256 .f32) (x6 : FVec Ideal S256x64 .f32) (x7 : FVec Ideal S64 .f32) (x8 : FVec Ideal S_ .f32) (x14 : FVec Ideal S64x64 .f32) (x15 : FVec Ideal S_ .f32) (n : Fin 10000) (k : Fin 64) :
    val_main_v50 (F := Ideal) x3 x4 x6 x7 x8 (ix2 n k) =
      Spec.ctx (enc x6 x7 x8) ((side x3 x4 x2 x14 x15).A (Spec.prev n)) ((side x3 x4 x2 x14 x15).X (Spec.prev n)) k := by
  pointwise [val_main_v48, val_main_v49, val_main_v50]
  simp only [ctx2_at]
  split
  next h =>
    have e : Spec.prev n = ⟨9999 + n.val, by omega⟩ :=
      (Spec.prev_of_zero (by omega)).trans (Fin.ext (by change 9999 = 9999 + n.val; omega))
    rw [e]
    rfl
  next h =>
    have e : Spec.prev n = ⟨n.val - 1, by omega⟩ := Spec.prev_of_pos (by dsimp only; omega)
    rw [e]
    rfl

/-- The reference's negative logits, second view. -/
theorem neg2_at (x2 : FVec Ideal S10000x5x256 .f32) (x3 : FVec Ideal S10000x5x5 .f32) (x4 : FVec Ideal S10000x5x256 .f32) (x6 : FVec Ideal S256x64 .f32) (x7 : FVec Ideal S64 .f32) (x8 : FVec Ideal S_ .f32) (x14 : FVec Ideal S64x64 .f32) (x15 : FVec Ideal S_ .f32) (n : Fin 10000) :
    val_main_v54 (F := Ideal) x3 x4 x6 x7 x8 x14 x15 (ix1 n) = (side x3 x4 x2 x14 x15).neg (enc x6 x7 x8) n := by
  pointwise [val_main_v51, val_main_v52, val_main_v53, val_main_v54]
  simp only [shift2_at x2 x3 x4 x6 x7 x8 x14 x15, mid2_at]
  exact logit_comm (side x3 x4 x2 x14 x15) _ _

theorem dec2_at (x3 : FVec Ideal S10000x5x5 .f32) (x4 : FVec Ideal S10000x5x256 .f32) (x6 : FVec Ideal S256x64 .f32) (x7 : FVec Ideal S64 .f32) (x8 : FVec Ideal S_ .f32) (x9 : FVec Ideal S64x256 .f32) (x10 : FVec Ideal S256 .f32) (x11 : FVec Ideal S_ .f32) (n : Fin 10000) (j : Fin 256) :
    val_main_v75 (F := Ideal) x3 x4 x6 x7 x8 x9 x10 x11 (ix3 n 4 j) =
      Spec.dec (enc x6 x7 x8) (decd x9 x10 x11) (fun i j => x3 (ix3 n i j)) (fun i d => x4 (ix3 n i d)) j := by
  pointwise [val_main_v66, val_main_v67, val_main_v68, val_main_v69, val_main_v70, val_main_v71, val_main_v72, val_main_v73, val_main_v74, val_main_v75, val_main_cst_6]
  simp only [hid2_at]
  rfl

/-- The reference's scores, second view. -/
theorem score2_at (x2 : FVec Ideal S10000x5x256 .f32) (x3 : FVec Ideal S10000x5x5 .f32) (x4 : FVec Ideal S10000x5x256 .f32) (x6 : FVec Ideal S256x64 .f32) (x7 : FVec Ideal S64 .f32) (x8 : FVec Ideal S_ .f32) (x9 : FVec Ideal S64x256 .f32) (x10 : FVec Ideal S256 .f32) (x11 : FVec Ideal S_ .f32) (x14 : FVec Ideal S64x64 .f32) (x15 : FVec Ideal S_ .f32) (n : Fin 10000) :
    val_main_v95 (F := Ideal) x2 x3 x4 x6 x7 x8 x9 x10 x11 (ix1 n) = (side x3 x4 x2 x14 x15).score (enc x6 x7 x8) (decd x9 x10 x11) n := by
  pointwise [val_main_v86, val_main_v87, val_main_v88, val_main_v89, val_main_v90, val_main_v91, val_main_v92, val_main_v93, val_main_v94, val_main_v95, val_main_cst_9, val_main_cst_10]
  simp only [dec2_at]
  rfl

/-- The reference's result: both views' logits, then both scores. -/
theorem result_at (x0 : FVec Ideal S10000x5x5 .f32) (x1 : FVec Ideal S10000x5x256 .f32) (x2 : FVec Ideal S10000x5x256 .f32) (x3 : FVec Ideal S10000x5x5 .f32) (x4 : FVec Ideal S10000x5x256 .f32) (x5 : FVec Ideal S10000x5x256 .f32) (x6 : FVec Ideal S256x64 .f32) (x7 : FVec Ideal S64 .f32) (x8 : FVec Ideal S_ .f32) (x9 : FVec Ideal S64x256 .f32) (x10 : FVec Ideal S256 .f32) (x11 : FVec Ideal S_ .f32) (x12 : FVec Ideal S64x64 .f32) (x13 : FVec Ideal S_ .f32) (x14 : FVec Ideal S64x64 .f32) (x15 : FVec Ideal S_ .f32) (i : Fin 60000) :
    val_main_v96 (F := Ideal) x0 x1 x2 x3 x4 x5 x6 x7 x8 x9 x10 x11 x12 x13 x14 x15 (ix1 i) =
      Spec.joined ((side x0 x1 x5 x12 x13).pos (enc x6 x7 x8)) ((side x0 x1 x5 x12 x13).neg (enc x6 x7 x8))
        ((side x3 x4 x2 x14 x15).pos (enc x6 x7 x8)) ((side x3 x4 x2 x14 x15).neg (enc x6 x7 x8))
        ((side x0 x1 x5 x12 x13).score (enc x6 x7 x8) (decd x9 x10 x11))
        ((side x3 x4 x2 x14 x15).score (enc x6 x7 x8) (decd x9 x10 x11)) i := by
  pointwise [val_main_v96, val_main_v43, val_main_v55]
  simp only [pos1_at x0 x1 x5 x6 x7 x8 x12 x13, neg1_at x0 x1 x5 x6 x7 x8 x12 x13, pos2_at x2 x3 x4 x6 x7 x8 x14 x15,
    neg2_at x2 x3 x4 x6 x7 x8 x14 x15, score1_at x0 x1 x5 x6 x7 x8 x9 x10 x11 x12 x13,
    score2_at x2 x3 x4 x6 x7 x8 x9 x10 x11 x14 x15]
  have hi := i.isLt
  generalize (side x0 x1 x5 x12 x13).pos (enc x6 x7 x8) = p1
  generalize (side x0 x1 x5 x12 x13).neg (enc x6 x7 x8) = n1
  generalize (side x3 x4 x2 x14 x15).pos (enc x6 x7 x8) = p2
  generalize (side x3 x4 x2 x14 x15).neg (enc x6 x7 x8) = n2
  generalize (side x0 x1 x5 x12 x13).score (enc x6 x7 x8) (decd x9 x10 x11) = s1
  generalize (side x3 x4 x2 x14 x15).score (enc x6 x7 x8) (decd x9 x10 x11) = s2
  repeat' split
  all_goals first
    | exact (Spec.joined_0 _ _ _ _ _ _ (by dsimp only; omega)).symm
    | exact (Spec.joined_1 _ _ _ _ _ _ (by dsimp only; omega)).symm
    | exact (Spec.joined_2 _ _ _ _ _ _ (by dsimp only; omega)).symm
    | exact (Spec.joined_3 _ _ _ _ _ _ (by dsimp only; omega)).symm
    | exact (Spec.joined_4 _ _ _ _ _ _ (by dsimp only; omega)).symm
    | exact (Spec.joined_5 _ _ _ _ _ _ (by dsimp only; omega)).symm

end Cert.ReferenceIdeal.Hand

end
-- ==== Proof.Equal.lean ====
/- On the precondition the kernel's result and the reference's are the same array. -/
module

public import proofs.«01_k».proof.Proof.PreFacts
public import proofs.«01_k».proof.Proof.Result
public import proofs.«01_k».proof.Proof.Reference

@[expose] public section

set_option maxRecDepth 16384

noncomputable section

open Idealize.ShloMosaic Idealize.ShloMosaic.TcCoe Idealize.SL.Sem Idealize.ShloMosaic.Tactic

namespace Cert.KernelIdeal.Hand

open Cert.KernelIdeal Cert.KernelIdeal.Gen

variable (m : (ℓ : Loc nD τ sig) → Buf (Elt Ideal) ℓ)

/-- The array the kernel's program ends holding as its result. -/
def result (c : Dev nD) : Buf (Elt Ideal) ((c.tc : Thread nD τ).loc main_v51) :=
  Pipeline.afterTail₀ cfgs (dats m) 0 (V0 m) [hostOps1] c main_v51

/-- The reference's function of the kernel's own arguments. -/
def expected (c : Dev nD) : FVec Ideal S60000 .f32 :=
  Cert.ReferenceIdeal.Read.val_main_v96 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15))

/-- The precondition on one core's arguments. -/
def Finite (c : Dev nD) : Prop :=
  Cert.Pre_finite_inputs.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) = fun _ => 1#1

/-- Under the precondition both scores of both views agree. -/
theorem scores_eq (c : Dev nD) (h : Finite m c) :
    (side1 m c).scoreMix (enc m c) (decd m c) = (side1 m c).score (enc m c) (decd m c) ∧
      (side2 m c).scoreMix (enc m c) (decd m c) = (side2 m c).score (enc m c) (decd m c) := by
  obtain ⟨h0, h1, h3, h4, h6, h7, h8, h9⟩ := Cert.Pre_finite_inputs.Hand.reals _ _ _ _ _ _ _ _ _ _ _ _ _ _ _ _ h
  have he : (enc m c).Real := ⟨fun d k => h6 (ix2 d k), fun k => h7 (ix1 k), h8 ix0⟩
  have hd : ∀ k j, Spec.IsReal ((decd m c).w k j) := fun k j => h9 (ix2 k j)
  exact ⟨Spec.Side.score_eq _ ⟨fun n i k => h0 (ix3 n i k), fun n i d => h1 (ix3 n i d)⟩ _ he _ hd,
    Spec.Side.score_eq _ ⟨fun n i k => h3 (ix3 n i k), fun n i d => h4 (ix3 n i d)⟩ _ he _ hd⟩

/-- The kernel's result is the reference's function of its arguments. -/
theorem result_eq (c : Dev nD) (h : Finite m c) : expected m c = result m c := by
  have key : ∀ i : Fin 60000, expected m c (ix1 i) = (result m c : FVec Ideal S60000 .f32) (ix1 i) := by
    intro i
    refine Eq.trans ?_ (result_at m c i).symm
    rw [(scores_eq m c h).1, (scores_eq m c h).2]
    exact Cert.ReferenceIdeal.Hand.result_at _ _ _ _ _ _ _ _ _ _ _ _ _ _ _ _ i
  funext i
  rw [show i = ix1 (i 0) from funext fun k => by fin_cases k; rfl]
  exact key (i 0)

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Point
public import proofs.«01_k».proof.Proof.Float.Point
public import proofs.«01_k».proof.Proof.PreFacts
public import proofs.«01_k».proof.Proof.Equal
public import Idealize.ShloMosaic.Adequacy
public import Idealize.ShloMosaic.Init

@[expose] public section

noncomputable section

namespace Cert.Proof

open Idealize.ShloMosaic Idealize.SL.Sem Cert.Kernel

local instance : Cert.Kernel.Facts := Cert.Kernel.Gen.facts

/-- The reference runs host operations only: its arguments end unchanged and it declares no semaphore. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On equal arguments that satisfy the precondition both programs end holding `result`. -/
theorem algebraic : Cert.algebraic_KernelIdeal_ReferenceIdeal_pre_finite_inputs := by
  intro m g m' g' hpre hagree
  refine ⟨fun c => Cert.KernelIdeal.Hand.result m c, ?_, ?_⟩
  · refine (θ_run Cert.KernelIdeal.defs _ _).mono (fun r h c => ⟨?_, h.2.1 c⟩)
      (θ_run_and (Cert.KernelIdeal.Hand.run_main (F := Ideal) m g) (Cert.KernelIdeal.Hand.frame (F := Ideal) m g))
    exact (h.1 c).2 Cert.KernelIdeal.main_v51 (by decide)
  · refine (θ_run Cert.ReferenceIdeal.defs _ _).mono (fun r h c => ⟨(h c).1.trans ?_, (h c).2⟩)
      (Cert.ReferenceIdeal.Value.run (F := Ideal) m' g')
    refine Eq.trans ?_ (Cert.KernelIdeal.Hand.result_eq m c (hpre c))
    obtain ⟨h0, h1, h2, h3, h4, h5, h6, h7, h8, h9, h10, h11, h12, h13, h14, h15⟩ := hagree c
    refine (Cert.ReferenceIdeal.Read.val_main_v96_eq m' c).trans ?_
    rw [h0, h1, h2, h3, h4, h5, h6, h7, h8, h9, h10, h11, h12, h13, h14, h15]
    rfl

theorem claim : Cert.Claim := ⟨Cert.Kernel.Gen.facts, Cert.KernelIdeal.Gen.facts, Cert.ReferenceIdeal.Gen.facts,
  Cert.Pre_finite_inputs.Hand.facts,
  fun m g _ => Cert.Kernel.Hand.frame (F := Bits) m g,
  fun m g _ => Cert.KernelIdeal.Hand.frame (F := Ideal) m g,
  fun m g _ => Cert.KernelIdeal.Hand.frame (F := Ideal) m g,
  frame_ri,
  fun m g _ => frame_ri m g trivial,
  trivial,
  algebraic⟩

end Cert.Proof

end
